-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_off_edge_pre_in_range [hKernelIdeal : Cert.KernelIdeal.Facts] [hReferenceIdeal : Cert.ReferenceIdeal.Facts] [hPre_in_range : Cert.Pre_in_range.Facts] [hOn_off_edge : Cert.On_off_edge.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v207_0)) (v1 : (c : Dev Cert.KernelIdeal.nD) → Buf (Elt Ideal) ((c.tc : Thread Cert.KernelIdeal.nD Cert.KernelIdeal.τ).loc Cert.KernelIdeal.main_v207_1)) (v2 : (c : Dev Cert.KernelIdeal.nD) → Buf (Elt Ideal) ((c.tc : Thread Cert.KernelIdeal.nD Cert.KernelIdeal.τ).loc Cert.KernelIdeal.main_v207_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![4194304]⟩ : Shape).Idx, (Cert.On_off_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v207_0) i = v0 c i)
          ∧ (∀ i : (⟨1, ![4194304]⟩ : Shape).Idx, (Cert.On_off_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v207_1) i = v1 c i)
          ∧ (∀ i : (⟨1, ![4194304]⟩ : Shape).Idx, (Cert.On_off_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v207_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![4194304]⟩ : Shape).Idx, (Cert.On_off_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v53) i = v0 c i)
          ∧ (∀ i : (⟨1, ![4194304]⟩ : Shape).Idx, (Cert.On_off_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v67) i = v1 c i)
          ∧ (∀ i : (⟨1, ![4194304]⟩ : Shape).Idx, (Cert.On_off_edge.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v88) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def holds_KernelIdeal_close_pre_in_range [hKernelIdeal : Cert.KernelIdeal.Facts] [hPre_in_range : Cert.Pre_in_range.Facts] [hPost_close : Cert.Post_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ (Cert.Post_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (r.2.mem ((c.tc : Thread Cert.KernelIdeal.nD Cert.KernelIdeal.τ).loc Cert.KernelIdeal.main_v207_0)) (r.2.mem ((c.tc : Thread Cert.KernelIdeal.nD Cert.KernelIdeal.τ).loc Cert.KernelIdeal.main_v207_1)) (r.2.mem ((c.tc : Thread Cert.KernelIdeal.nD Cert.KernelIdeal.τ).loc Cert.KernelIdeal.main_v207_2))) = (fun _ => 1#1))

def Claim : Prop :=
  ∃ (hKernel : Cert.Kernel.Facts) (hKernelIdeal : Cert.KernelIdeal.Facts) (hReferenceIdeal : Cert.ReferenceIdeal.Facts) (hPre_in_range : Cert.Pre_in_range.Facts) (hPost_close : Cert.Post_close.Facts) (hOn_off_edge : Cert.On_off_edge.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_on_off_edge_pre_in_range (hKernelIdeal := hKernelIdeal) (hReferenceIdeal := hReferenceIdeal) (hPre_in_range := hPre_in_range) (hOn_off_edge := hOn_off_edge)
    ∧ holds_KernelIdeal_close_pre_in_range (hKernelIdeal := hKernelIdeal) (hPre_in_range := hPre_in_range) (hPost_close := hPost_close)
-- ==== On_off_edge.lean ====
abbrev S4194304 : Shape := ⟨1, ![4194304]⟩
abbrev S2048x2048 : Shape := ⟨2, ![2048, 2048]⟩
abbrev S3x1 : Shape := ⟨2, ![3, 1]⟩
abbrev S_ : Shape := ⟨0, ![]⟩
abbrev S1x4194304 : Shape := ⟨2, ![1, 4194304]⟩
abbrev S3x4194304 : Shape := ⟨2, ![3, 4194304]⟩

class Facts : Prop where
  bcast_S_S4194304 : S_.BroadcastsInDim S4194304 (![] : Fin 0 → Fin S4194304.rank)
  bcast_S_S3x1 : S_.BroadcastsInDim S3x1 (![] : Fin 0 → Fin S3x1.rank)
  bcast_S4194304_S1x4194304_1 : S4194304.BroadcastsInDim S1x4194304 (![1] : Fin 1 → Fin S1x4194304.rank)
  bcast_S1x4194304_S3x4194304_0_1 : S1x4194304.BroadcastsInDim S3x4194304 (![0, 1] : Fin 2 → Fin S3x4194304.rank)
  bcast_S3x1_S3x4194304_0_1 : S3x1.BroadcastsInDim S3x4194304 (![0, 1] : Fin 2 → Fin S3x4194304.rank)
  bcast_S_S3x4194304 : S_.BroadcastsInDim S3x4194304 (![] : Fin 0 → Fin S3x4194304.rank)
  slices_S3x4194304_S1x4194304_0_0 : S3x4194304.Slices ![0, 0] S1x4194304
  shapeCasts_S1x4194304_S4194304 : S1x4194304.ShapeCasts S4194304
  slices_S3x4194304_S1x4194304_1_0 : S3x4194304.Slices ![1, 0] S1x4194304

variable [Facts]

noncomputable abbrev lit0 : Fin 3 → BitVec 32 := fun
  | 0 => 507451445#32 | 1 => 1948878966#32 | 2 => 2441914641#32
  | _ => 0#32

noncomputable abbrev lit1 : Fin 3 → BitVec 32 := fun
  | 0 => 1853169794#32 | 1 => 4237131848#32 | 2 => 3819641963#32
  | _ => 0#32

def fn_four_rounds_part1 {F : FTy → Type} [FloatOps F] (v13 : IVec S3x4194304 32) (v14 : IVec S3x4194304 32) (v16 : IVec S3x4194304 32) (v17 : IVec S3x4194304 32) : IVec S3x4194304 32 × IVec S3x4194304 32 :=
  let v18 : IVec S3x4194304 32 := Host.shrui v13 v17
  let v19 : IVec S3x4194304 32 := ori v16 v18
  let v20 : IVec S3x4194304 32 := xori v19 v14
  let v21 : IVec S3x4194304 32 := addi v14 v20
  let c_5 : IVec S_ 32 := constantI S_ 32 6#32
  let v22 : IVec S3x4194304 32 := broadcastInDim S3x4194304 ![] bcast_S_S3x4194304 c_5
  let v23 : IVec S3x4194304 32 := Host.shli v20 v22
  let c_6 : IVec S_ 32 := constantI S_ 32 26#32
  let v24 : IVec S3x4194304 32 := broadcastInDim S3x4194304 ![] bcast_S_S3x4194304 c_6
  let v25 : IVec S3x4194304 32 := Host.shrui v20 v24
  let v26 : IVec S3x4194304 32 := ori v23 v25
  let v27 : IVec S3x4194304 32 := xori v26 v21
  (v21, v27)

def fn_four_rounds {F : FTy → Type} [FloatOps F] (arg0 : IVec S3x4194304 32) (arg1 : IVec S3x4194304 32) : IVec S3x4194304 32 × IVec S3x4194304 32 :=
  let v0 : IVec S3x4194304 32 := addi arg0 arg1
  let c : IVec S_ 32 := constantI S_ 32 13#32
  let v1 : IVec S3x4194304 32 := broadcastInDim S3x4194304 ![] bcast_S_S3x4194304 c
  let v2 : IVec S3x4194304 32 := Host.shli arg1 v1
  let c_0 : IVec S_ 32 := constantI S_ 32 19#32
  let v3 : IVec S3x4194304 32 := broadcastInDim S3x4194304 ![] bcast_S_S3x4194304 c_0
  let v4 : IVec S3x4194304 32 := Host.shrui arg1 v3
  let v5 : IVec S3x4194304 32 := ori v2 v4
  let v6 : IVec S3x4194304 32 := xori v5 v0
  let v7 : IVec S3x4194304 32 := addi v0 v6
  let c_1 : IVec S_ 32 := constantI S_ 32 15#32
  let v8 : IVec S3x4194304 32 := broadcastInDim S3x4194304 ![] bcast_S_S3x4194304 c_1
  let v9 : IVec S3x4194304 32 := Host.shli v6 v8
  let c_2 : IVec S_ 32 := constantI S_ 32 17#32
  let v10 : IVec S3x4194304 32 := broadcastInDim S3x4194304 ![] bcast_S_S3x4194304 c_2
  let v11 : IVec S3x4194304 32 := Host.shrui v6 v10
  let v12 : IVec S3x4194304 32 := ori v9 v11
  let v13 : IVec S3x4194304 32 := xori v12 v7
  let v14 : IVec S3x4194304 32 := addi v7 v13
  let c_3 : IVec S_ 32 := constantI S_ 32 26#32
  let v15 : IVec S3x4194304 32 := broadcastInDim S3x4194304 ![] bcast_S_S3x4194304 c_3
  let v16 : IVec S3x4194304 32 := Host.shli v13 v15
  let c_4 : IVec S_ 32 := constantI S_ 32 6#32
  let v17 : IVec S3x4194304 32 := broadcastInDim S3x4194304 ![] bcast_S_S3x4194304 c_4
  fn_four_rounds_part1 (F := F) v13 v14 v16 v17

def fn_four_rounds_0_part1 {F : FTy → Type} [FloatOps F] (v13 : IVec S3x4194304 32) (v14 : IVec S3x4194304 32) (v16 : IVec S3x4194304 32) (v17 : IVec S3x4194304 32) : IVec S3x4194304 32 × IVec S3x4194304 32 :=
  let v18 : IVec S3x4194304 32 := Host.shrui v13 v17
  let v19 : IVec S3x4194304 32 := ori v16 v18
  let v20 : IVec S3x4194304 32 := xori v19 v14
  let v21 : IVec S3x4194304 32 := addi v14 v20
  let c_5 : IVec S_ 32 := constantI S_ 32 24#32
  let v22 : IVec S3x4194304 32 := broadcastInDim S3x4194304 ![] bcast_S_S3x4194304 c_5
  let v23 : IVec S3x4194304 32 := Host.shli v20 v22
  let c_6 : IVec S_ 32 := constantI S_ 32 8#32
  let v24 : IVec S3x4194304 32 := broadcastInDim S3x4194304 ![] bcast_S_S3x4194304 c_6
  let v25 : IVec S3x4194304 32 := Host.shrui v20 v24
  let v26 : IVec S3x4194304 32 := ori v23 v25
  let v27 : IVec S3x4194304 32 := xori v26 v21
  (v21, v27)

def fn_four_rounds_0 {F : FTy → Type} [FloatOps F] (arg0 : IVec S3x4194304 32) (arg1 : IVec S3x4194304 32) : IVec S3x4194304 32 × IVec S3x4194304 32 :=
  let v0 : IVec S3x4194304 32 := addi arg0 arg1
  let c : IVec S_ 32 := constantI S_ 32 17#32
  let v1 : IVec S3x4194304 32 := broadcastInDim S3x4194304 ![] bcast_S_S3x4194304 c
  let v2 : IVec S3x4194304 32 := Host.shli arg1 v1
  let c_0 : IVec S_ 32 := constantI S_ 32 15#32
  let v3 : IVec S3x4194304 32 := broadcastInDim S3x4194304 ![] bcast_S_S3x4194304 c_0
  let v4 : IVec S3x4194304 32 := Host.shrui arg1 v3
  let v5 : IVec S3x4194304 32 := ori v2 v4
  let v6 : IVec S3x4194304 32 := xori v5 v0
  let v7 : IVec S3x4194304 32 := addi v0 v6
  let c_1 : IVec S_ 32 := constantI S_ 32 29#32
  let v8 : IVec S3x4194304 32 := broadcastInDim S3x4194304 ![] bcast_S_S3x4194304 c_1
  let v9 : IVec S3x4194304 32 := Host.shli v6 v8
  let c_2 : IVec S_ 32 := constantI S_ 32 3#32
  let v10 : IVec S3x4194304 32 := broadcastInDim S3x4194304 ![] bcast_S_S3x4194304 c_2
  let v11 : IVec S3x4194304 32 := Host.shrui v6 v10
  let v12 : IVec S3x4194304 32 := ori v9 v11
  let v13 : IVec S3x4194304 32 := xori v12 v7
  let v14 : IVec S3x4194304 32 := addi v7 v13
  let c_3 : IVec S_ 32 := constantI S_ 32 16#32
  let v15 : IVec S3x4194304 32 := broadcastInDim S3x4194304 ![] bcast_S_S3x4194304 c_3
  let v16 : IVec S3x4194304 32 := Host.shli v13 v15
  let c_4 : IVec S_ 32 := constantI S_ 32 16#32
  let v17 : IVec S3x4194304 32 := broadcastInDim S3x4194304 ![] bcast_S_S3x4194304 c_4
  fn_four_rounds_0_part1 (F := F) v13 v14 v16 v17

def fn_threefry_part2 {F : FTy → Type} [FloatOps F] (arg0 : IVec S3x1 32) (v2 : IVec S3x1 32) (v34 : IVec S3x4194304 32) (v38 : IVec S3x4194304 32) : IVec S3x4194304 32 × IVec S3x4194304 32 :=
  let v39_0 : IVec S3x4194304 32 := (fn_four_rounds (F := F) v34 v38).1
  let v39_1 : IVec S3x4194304 32 := (fn_four_rounds (F := F) v34 v38).2
  let v40 : IVec S3x4194304 32 := broadcastInDim S3x4194304 ![0, 1] bcast_S3x1_S3x4194304_0_1 v2
  let v41 : IVec S3x4194304 32 := addi v39_0 v40
  let v42 : IVec S3x4194304 32 := broadcastInDim S3x4194304 ![0, 1] bcast_S3x1_S3x4194304_0_1 arg0
  let v43 : IVec S3x4194304 32 := addi v39_1 v42
  let c_4 : IVec S_ 32 := constantI S_ 32 5#32
  let v44 : IVec S3x4194304 32 := broadcastInDim S3x4194304 ![] bcast_S_S3x4194304 c_4
  let v45 : IVec S3x4194304 32 := addi v43 v44
  (v41, v45)

def fn_threefry_part1 {F : FTy → Type} [FloatOps F] (arg0 : IVec S3x1 32) (arg1 : IVec S3x1 32) (v2 : IVec S3x1 32) (v18_0 : IVec S3x4194304 32) (v18_1 : IVec S3x4194304 32) (v19 : IVec S3x4194304 32) : IVec S3x4194304 32 × IVec S3x4194304 32 :=
  let v20 : IVec S3x4194304 32 := addi v18_0 v19
  let v21 : IVec S3x4194304 32 := broadcastInDim S3x4194304 ![0, 1] bcast_S3x1_S3x4194304_0_1 arg0
  let v22 : IVec S3x4194304 32 := addi v18_1 v21
  let c_1 : IVec S_ 32 := constantI S_ 32 2#32
  let v23 : IVec S3x4194304 32 := broadcastInDim S3x4194304 ![] bcast_S_S3x4194304 c_1
  let v24 : IVec S3x4194304 32 := addi v22 v23
  let v25_0 : IVec S3x4194304 32 := (fn_four_rounds (F := F) v20 v24).1
  let v25_1 : IVec S3x4194304 32 := (fn_four_rounds (F := F) v20 v24).2
  let v26 : IVec S3x4194304 32 := broadcastInDim S3x4194304 ![0, 1] bcast_S3x1_S3x4194304_0_1 arg0
  let v27 : IVec S3x4194304 32 := addi v25_0 v26
  let v28 : IVec S3x4194304 32 := broadcastInDim S3x4194304 ![0, 1] bcast_S3x1_S3x4194304_0_1 arg1
  let v29 : IVec S3x4194304 32 := addi v25_1 v28
  let c_2 : IVec S_ 32 := constantI S_ 32 3#32
  let v30 : IVec S3x4194304 32 := broadcastInDim S3x4194304 ![] bcast_S_S3x4194304 c_2
  let v31 : IVec S3x4194304 32 := addi v29 v30
  let v32_0 : IVec S3x4194304 32 := (fn_four_rounds_0 (F := F) v27 v31).1
  let v32_1 : IVec S3x4194304 32 := (fn_four_rounds_0 (F := F) v27 v31).2
  let v33 : IVec S3x4194304 32 := broadcastInDim S3x4194304 ![0, 1] bcast_S3x1_S3x4194304_0_1 arg1
  let v34 : IVec S3x4194304 32 := addi v32_0 v33
  let v35 : IVec S3x4194304 32 := broadcastInDim S3x4194304 ![0, 1] bcast_S3x1_S3x4194304_0_1 v2
  let v36 : IVec S3x4194304 32 := addi v32_1 v35
  let c_3 : IVec S_ 32 := constantI S_ 32 4#32
  let v37 : IVec S3x4194304 32 := broadcastInDim S3x4194304 ![] bcast_S_S3x4194304 c_3
  let v38 : IVec S3x4194304 32 := addi v36 v37
  fn_threefry_part2 (F := F) arg0 v2 v34 v38

def fn_threefry {F : FTy → Type} [FloatOps F] (arg0 : IVec S3x1 32) (arg1 : IVec S3x1 32) (arg2 : IVec S4194304 32) (arg3 : IVec S4194304 32) : IVec S3x4194304 32 × IVec S3x4194304 32 :=
  let v0 : IVec S3x1 32 := xori arg0 arg1
  let c : IVec S_ 32 := constantI S_ 32 466688986#32
  let v1 : IVec S3x1 32 := broadcastInDim S3x1 ![] bcast_S_S3x1 c
  let v2 : IVec S3x1 32 := xori v0 v1
  let v3 : IVec S1x4194304 32 := broadcastInDim S1x4194304 ![1] bcast_S4194304_S1x4194304_1 arg2
  let v4 : IVec S3x4194304 32 := broadcastInDim S3x4194304 ![0, 1] bcast_S1x4194304_S3x4194304_0_1 v3
  let v5 : IVec S3x4194304 32 := broadcastInDim S3x4194304 ![0, 1] bcast_S3x1_S3x4194304_0_1 arg0
  let v6 : IVec S3x4194304 32 := addi v4 v5
  let v7 : IVec S1x4194304 32 := broadcastInDim S1x4194304 ![1] bcast_S4194304_S1x4194304_1 arg3
  let v8 : IVec S3x4194304 32 := broadcastInDim S3x4194304 ![0, 1] bcast_S1x4194304_S3x4194304_0_1 v7
  let v9 : IVec S3x4194304 32 := broadcastInDim S3x4194304 ![0, 1] bcast_S3x1_S3x4194304_0_1 arg1
  let v10 : IVec S3x4194304 32 := addi v8 v9
  let v11_0 : IVec S3x4194304 32 := (fn_four_rounds (F := F) v6 v10).1
  let v11_1 : IVec S3x4194304 32 := (fn_four_rounds (F := F) v6 v10).2
  let v12 : IVec S3x4194304 32 := broadcastInDim S3x4194304 ![0, 1] bcast_S3x1_S3x4194304_0_1 arg1
  let v13 : IVec S3x4194304 32 := addi v11_0 v12
  let v14 : IVec S3x4194304 32 := broadcastInDim S3x4194304 ![0, 1] bcast_S3x1_S3x4194304_0_1 v2
  let v15 : IVec S3x4194304 32 := addi v11_1 v14
  let c_0 : IVec S_ 32 := constantI S_ 32 1#32
  let v16 : IVec S3x4194304 32 := broadcastInDim S3x4194304 ![] bcast_S_S3x4194304 c_0
  let v17 : IVec S3x4194304 32 := addi v15 v16
  let v18_0 : IVec S3x4194304 32 := (fn_four_rounds_0 (F := F) v13 v17).1
  let v18_1 : IVec S3x4194304 32 := (fn_four_rounds_0 (F := F) v13 v17).2
  let v19 : IVec S3x4194304 32 := broadcastInDim S3x4194304 ![0, 1] bcast_S3x1_S3x4194304_0_1 v2
  fn_threefry_part1 (F := F) arg0 arg1 v2 v18_0 v18_1 v19

def fn_where {F : FTy → Type} [FloatOps F] (arg0 : IVec S4194304 1) (arg1 : FVec F S4194304 .f32) (arg2 : FVec F S4194304 .f32) : FVec F S4194304 .f32 :=
  let v0 : FVec F S4194304 .f32 := select arg0 arg1 arg2
  v0

def fn_part2 {F : FTy → Type} [FloatOps F] (main_v27 : FVec F S4194304 .f32) (main_v31 : FVec F S4194304 .f32) (main_v33 : IVec S4194304 1) : IVec S4194304 1 × IVec S4194304 1 × IVec S4194304 1 :=
  let main_cst_11 : FVec F S_ .f32 := constant S_ .f32 0xB5800000#32
  let main_v34 : FVec F S4194304 .f32 := broadcastInDim S4194304 ![] bcast_S_S4194304 main_cst_11
  let main_v35 : IVec S4194304 1 := cmpf .ole main_v31 main_v34
  let main_v36 : FVec F S4194304 .f32 := Host.absf main_v27
  let main_cst_12 : FVec F S_ .f32 := constant S_ .f32 0x35800000#32
  let main_v37 : FVec F S4194304 .f32 := broadcastInDim S4194304 ![] bcast_S_S4194304 main_cst_12
  let main_v38 : IVec S4194304 1 := cmpf .ogt main_v36 main_v37
  let main_v39 : FVec F S4194304 .f32 := Host.absf main_v31
  let main_cst_13 : FVec F S_ .f32 := constant S_ .f32 0x35800000#32
  let main_v40 : FVec F S4194304 .f32 := broadcastInDim S4194304 ![] bcast_S_S4194304 main_cst_13
  let main_v41 : IVec S4194304 1 := cmpf .ogt main_v39 main_v40
  let main_v42 : IVec S4194304 1 := andi main_v38 main_v41
  (main_v33, main_v35, main_v42)

def fn_part1 {F : FTy → Type} [FloatOps F] (main_arg0 : FVec F S4194304 .f32) (main_arg1 : FVec F S4194304 .f32) (main_arg2 : FVec F S4194304 .f32) (main_v12 : FVec F S3x4194304 .f32) (main_v14 : FVec F S4194304 .f32) (main_cst_5 : FVec F S_ .f32) : IVec S4194304 1 × IVec S4194304 1 × IVec S4194304 1 :=
  let main_v15 : FVec F S4194304 .f32 := broadcastInDim S4194304 ![] bcast_S_S4194304 main_cst_5
  let main_v16 : FVec F S4194304 .f32 := mulf main_v14 main_v15
  let main_cst_6 : FVec F S_ .f32 := constant S_ .f32 0x40490FD8#32
  let main_v17 : FVec F S4194304 .f32 := broadcastInDim S4194304 ![] bcast_S_S4194304 main_cst_6
  let main_v18 : FVec F S4194304 .f32 := mulf main_v16 main_v17
  let main_v19 : FVec F S1x4194304 .f32 := (extractStridedSlice S1x4194304 ![1, 0] · slices_S3x4194304_S1x4194304_1_0) main_v12
  let main_v20 : FVec F S4194304 .f32 := shapeCast S4194304 main_v19 shapeCasts_S1x4194304_S4194304
  let main_cst_7 : FVec F S_ .f32 := constant S_ .f32 0x3C23D70A#32
  let main_v21 : FVec F S4194304 .f32 := broadcastInDim S4194304 ![] bcast_S_S4194304 main_cst_7
  let main_v22 : IVec S4194304 1 := cmpf .ole main_v20 main_v21
  let main_v23 : FVec F S4194304 .f32 := fn_where (F := F) main_v22 main_v18 main_arg2
  let main_v24 : FVec F S4194304 .f32 := Host.cos main_v23
  let main_cst_8 : FVec F S_ .f32 := constant S_ .f32 0x3F800000#32
  let main_v25 : FVec F S4194304 .f32 := broadcastInDim S4194304 ![] bcast_S_S4194304 main_cst_8
  let main_v26 : FVec F S4194304 .f32 := mulf main_v24 main_v25
  let main_v27 : FVec F S4194304 .f32 := addf main_arg0 main_v26
  let main_v28 : FVec F S4194304 .f32 := Host.sin main_v23
  let main_cst_9 : FVec F S_ .f32 := constant S_ .f32 0x3F800000#32
  let main_v29 : FVec F S4194304 .f32 := broadcastInDim S4194304 ![] bcast_S_S4194304 main_cst_9
  let main_v30 : FVec F S4194304 .f32 := mulf main_v28 main_v29
  let main_v31 : FVec F S4194304 .f32 := addf main_arg1 main_v30
  let main_cst_10 : FVec F S_ .f32 := constant S_ .f32 0xB5800000#32
  let main_v32 : FVec F S4194304 .f32 := broadcastInDim S4194304 ![] bcast_S_S4194304 main_cst_10
  let main_v33 : IVec S4194304 1 := cmpf .ole main_v27 main_v32
  fn_part2 (F := F) main_v27 main_v31 main_v33

def fn {F : FTy → Type} [FloatOps F] (main_arg0 : FVec F S4194304 .f32) (main_arg1 : FVec F S4194304 .f32) (main_arg2 : FVec F S4194304 .f32) (main_arg3 : FVec F S2048x2048 .f32) : IVec S4194304 1 × IVec S4194304 1 × IVec S4194304 1 :=
  let main_c : IVec S3x1 32 := fun i => lit0 (S3x1.rowMajor i)
  let main_c_0 : IVec S3x1 32 := fun i => lit1 (S3x1.rowMajor i)
  let main_v0 : IVec S4194304 32 := iotaInDim S4194304 32 0
  let main_c_1 : IVec S_ 32 := constantI S_ 32 0#32
  let main_v1 : IVec S4194304 32 := broadcastInDim S4194304 ![] bcast_S_S4194304 main_c_1
  let main_v2_0 : IVec S3x4194304 32 := (fn_threefry (F := F) main_c main_c_0 main_v1 main_v0).1
  let main_v2_1 : IVec S3x4194304 32 := (fn_threefry (F := F) main_c main_c_0 main_v1 main_v0).2
  let main_v3 : IVec S3x4194304 32 := xori main_v2_0 main_v2_1
  let main_c_2 : IVec S_ 32 := constantI S_ 32 9#32
  let main_v4 : IVec S3x4194304 32 := broadcastInDim S3x4194304 ![] bcast_S_S3x4194304 main_c_2
  let main_v5 : IVec S3x4194304 32 := Host.shrui main_v3 main_v4
  let main_c_3 : IVec S_ 32 := constantI S_ 32 1065353216#32
  let main_v6 : IVec S3x4194304 32 := broadcastInDim S3x4194304 ![] bcast_S_S3x4194304 main_c_3
  let main_v7 : IVec S3x4194304 32 := ori main_v5 main_v6
  let main_v8 : FVec F S3x4194304 .f32 := bitcastToFloat .f32 main_v7
  let main_cst : FVec F S_ .f32 := constant S_ .f32 0x3F800000#32
  let main_v9 : FVec F S3x4194304 .f32 := broadcastInDim S3x4194304 ![] bcast_S_S3x4194304 main_cst
  let main_v10 : FVec F S3x4194304 .f32 := subf main_v8 main_v9
  let main_cst_4 : FVec F S_ .f32 := constant S_ .f32 0x00000000#32
  let main_v11 : FVec F S3x4194304 .f32 := broadcastInDim S3x4194304 ![] bcast_S_S3x4194304 main_cst_4
  let main_v12 : FVec F S3x4194304 .f32 := maximumf main_v10 main_v11
  let main_v13 : FVec F S1x4194304 .f32 := (extractStridedSlice S1x4194304 ![0, 0] · slices_S3x4194304_S1x4194304_0_0) main_v12
  let main_v14 : FVec F S4194304 .f32 := shapeCast S4194304 main_v13 shapeCasts_S1x4194304_S4194304
  let main_cst_5 : FVec F S_ .f32 := constant S_ .f32 0x40000000#32
  fn_part1 (F := F) main_arg0 main_arg1 main_arg2 main_v12 main_v14 main_cst_5
-- ==== Post_close.lean ====
abbrev S4194304 : Shape := ⟨1, ![4194304]⟩
abbrev S2048x2048 : Shape := ⟨2, ![2048, 2048]⟩
abbrev S3x1 : Shape := ⟨2, ![3, 1]⟩
abbrev S_ : Shape := ⟨0, ![]⟩
abbrev S1x4194304 : Shape := ⟨2, ![1, 4194304]⟩
abbrev S3x4194304 : Shape := ⟨2, ![3, 4194304]⟩

class Facts : Prop where
  bcast_S_S4194304 : S_.BroadcastsInDim S4194304 (![] : Fin 0 → Fin S4194304.rank)
  bcast_S_S3x1 : S_.BroadcastsInDim S3x1 (![] : Fin 0 → Fin S3x1.rank)
  bcast_S4194304_S1x4194304_1 : S4194304.BroadcastsInDim S1x4194304 (![1] : Fin 1 → Fin S1x4194304.rank)
  bcast_S1x4194304_S3x4194304_0_1 : S1x4194304.BroadcastsInDim S3x4194304 (![0, 1] : Fin 2 → Fin S3x4194304.rank)
  bcast_S3x1_S3x4194304_0_1 : S3x1.BroadcastsInDim S3x4194304 (![0, 1] : Fin 2 → Fin S3x4194304.rank)
  bcast_S_S3x4194304 : S_.BroadcastsInDim S3x4194304 (![] : Fin 0 → Fin S3x4194304.rank)
  slices_S3x4194304_S1x4194304_0_0 : S3x4194304.Slices ![0, 0] S1x4194304
  shapeCasts_S1x4194304_S4194304 : S1x4194304.ShapeCasts S4194304
  slices_S3x4194304_S1x4194304_1_0 : S3x4194304.Slices ![1, 0] S1x4194304
  slices_S3x4194304_S1x4194304_2_0 : S3x4194304.Slices ![2, 0] S1x4194304

variable [Facts]

noncomputable abbrev lit0 : Fin 3 → BitVec 32 := fun
  | 0 => 507451445#32 | 1 => 1948878966#32 | 2 => 2441914641#32
  | _ => 0#32

noncomputable abbrev lit1 : Fin 3 → BitVec 32 := fun
  | 0 => 1853169794#32 | 1 => 4237131848#32 | 2 => 3819641963#32
  | _ => 0#32

def fn_four_rounds_part1 {F : FTy → Type} [FloatOps F] (v13 : IVec S3x4194304 32) (v14 : IVec S3x4194304 32) (v16 : IVec S3x4194304 32) (v17 : IVec S3x4194304 32) : IVec S3x4194304 32 × IVec S3x4194304 32 :=
  let v18 : IVec S3x4194304 32 := Host.shrui v13 v17
  let v19 : IVec S3x4194304 32 := ori v16 v18
  let v20 : IVec S3x4194304 32 := xori v19 v14
  let v21 : IVec S3x4194304 32 := addi v14 v20
  let c_5 : IVec S_ 32 := constantI S_ 32 6#32
  let v22 : IVec S3x4194304 32 := broadcastInDim S3x4194304 ![] bcast_S_S3x4194304 c_5
  let v23 : IVec S3x4194304 32 := Host.shli v20 v22
  let c_6 : IVec S_ 32 := constantI S_ 32 26#32
  let v24 : IVec S3x4194304 32 := broadcastInDim S3x4194304 ![] bcast_S_S3x4194304 c_6
  let v25 : IVec S3x4194304 32 := Host.shrui v20 v24
  let v26 : IVec S3x4194304 32 := ori v23 v25
  let v27 : IVec S3x4194304 32 := xori v26 v21
  (v21, v27)

def fn_four_rounds {F : FTy → Type} [FloatOps F] (arg0 : IVec S3x4194304 32) (arg1 : IVec S3x4194304 32) : IVec S3x4194304 32 × IVec S3x4194304 32 :=
  let v0 : IVec S3x4194304 32 := addi arg0 arg1
  let c : IVec S_ 32 := constantI S_ 32 13#32
  let v1 : IVec S3x4194304 32 := broadcastInDim S3x4194304 ![] bcast_S_S3x4194304 c
  let v2 : IVec S3x4194304 32 := Host.shli arg1 v1
  let c_0 : IVec S_ 32 := constantI S_ 32 19#32
  let v3 : IVec S3x4194304 32 := broadcastInDim S3x4194304 ![] bcast_S_S3x4194304 c_0
  let v4 : IVec S3x4194304 32 := Host.shrui arg1 v3
  let v5 : IVec S3x4194304 32 := ori v2 v4
  let v6 : IVec S3x4194304 32 := xori v5 v0
  let v7 : IVec S3x4194304 32 := addi v0 v6
  let c_1 : IVec S_ 32 := constantI S_ 32 15#32
  let v8 : IVec S3x4194304 32 := broadcastInDim S3x4194304 ![] bcast_S_S3x4194304 c_1
  let v9 : IVec S3x4194304 32 := Host.shli v6 v8
  let c_2 : IVec S_ 32 := constantI S_ 32 17#32
  let v10 : IVec S3x4194304 32 := broadcastInDim S3x4194304 ![] bcast_S_S3x4194304 c_2
  let v11 : IVec S3x4194304 32 := Host.shrui v6 v10
  let v12 : IVec S3x4194304 32 := ori v9 v11
  let v13 : IVec S3x4194304 32 := xori v12 v7
  let v14 : IVec S3x4194304 32 := addi v7 v13
  let c_3 : IVec S_ 32 := constantI S_ 32 26#32
  let v15 : IVec S3x4194304 32 := broadcastInDim S3x4194304 ![] bcast_S_S3x4194304 c_3
  let v16 : IVec S3x4194304 32 := Host.shli v13 v15
  let c_4 : IVec S_ 32 := constantI S_ 32 6#32
  let v17 : IVec S3x4194304 32 := broadcastInDim S3x4194304 ![] bcast_S_S3x4194304 c_4
  fn_four_rounds_part1 (F := F) v13 v14 v16 v17

def fn_four_rounds_0_part1 {F : FTy → Type} [FloatOps F] (v13 : IVec S3x4194304 32) (v14 : IVec S3x4194304 32) (v16 : IVec S3x4194304 32) (v17 : IVec S3x4194304 32) : IVec S3x4194304 32 × IVec S3x4194304 32 :=
  let v18 : IVec S3x4194304 32 := Host.shrui v13 v17
  let v19 : IVec S3x4194304 32 := ori v16 v18
  let v20 : IVec S3x4194304 32 := xori v19 v14
  let v21 : IVec S3x4194304 32 := addi v14 v20
  let c_5 : IVec S_ 32 := constantI S_ 32 24#32
  let v22 : IVec S3x4194304 32 := broadcastInDim S3x4194304 ![] bcast_S_S3x4194304 c_5
  let v23 : IVec S3x4194304 32 := Host.shli v20 v22
  let c_6 : IVec S_ 32 := constantI S_ 32 8#32
  let v24 : IVec S3x4194304 32 := broadcastInDim S3x4194304 ![] bcast_S_S3x4194304 c_6
  let v25 : IVec S3x4194304 32 := Host.shrui v20 v24
  let v26 : IVec S3x4194304 32 := ori v23 v25
  let v27 : IVec S3x4194304 32 := xori v26 v21
  (v21, v27)

def fn_four_rounds_0 {F : FTy → Type} [FloatOps F] (arg0 : IVec S3x4194304 32) (arg1 : IVec S3x4194304 32) : IVec S3x4194304 32 × IVec S3x4194304 32 :=
  let v0 : IVec S3x4194304 32 := addi arg0 arg1
  let c : IVec S_ 32 := constantI S_ 32 17#32
  let v1 : IVec S3x4194304 32 := broadcastInDim S3x4194304 ![] bcast_S_S3x4194304 c
  let v2 : IVec S3x4194304 32 := Host.shli arg1 v1
  let c_0 : IVec S_ 32 := constantI S_ 32 15#32
  let v3 : IVec S3x4194304 32 := broadcastInDim S3x4194304 ![] bcast_S_S3x4194304 c_0
  let v4 : IVec S3x4194304 32 := Host.shrui arg1 v3
  let v5 : IVec S3x4194304 32 := ori v2 v4
  let v6 : IVec S3x4194304 32 := xori v5 v0
  let v7 : IVec S3x4194304 32 := addi v0 v6
  let c_1 : IVec S_ 32 := constantI S_ 32 29#32
  let v8 : IVec S3x4194304 32 := broadcastInDim S3x4194304 ![] bcast_S_S3x4194304 c_1
  let v9 : IVec S3x4194304 32 := Host.shli v6 v8
  let c_2 : IVec S_ 32 := constantI S_ 32 3#32
  let v10 : IVec S3x4194304 32 := broadcastInDim S3x4194304 ![] bcast_S_S3x4194304 c_2
  let v11 : IVec S3x4194304 32 := Host.shrui v6 v10
  let v12 : IVec S3x4194304 32 := ori v9 v11
  let v13 : IVec S3x4194304 32 := xori v12 v7
  let v14 : IVec S3x4194304 32 := addi v7 v13
  let c_3 : IVec S_ 32 := constantI S_ 32 16#32
  let v15 : IVec S3x4194304 32 := broadcastInDim S3x4194304 ![] bcast_S_S3x4194304 c_3
  let v16 : IVec S3x4194304 32 := Host.shli v13 v15
  let c_4 : IVec S_ 32 := constantI S_ 32 16#32
  let v17 : IVec S3x4194304 32 := broadcastInDim S3x4194304 ![] bcast_S_S3x4194304 c_4
  fn_four_rounds_0_part1 (F := F) v13 v14 v16 v17

def fn_threefry_part2 {F : FTy → Type} [FloatOps F] (arg0 : IVec S3x1 32) (v2 : IVec S3x1 32) (v34 : IVec S3x4194304 32) (v38 : IVec S3x4194304 32) : IVec S3x4194304 32 × IVec S3x4194304 32 :=
  let v39_0 : IVec S3x4194304 32 := (fn_four_rounds (F := F) v34 v38).1
  let v39_1 : IVec S3x4194304 32 := (fn_four_rounds (F := F) v34 v38).2
  let v40 : IVec S3x4194304 32 := broadcastInDim S3x4194304 ![0, 1] bcast_S3x1_S3x4194304_0_1 v2
  let v41 : IVec S3x4194304 32 := addi v39_0 v40
  let v42 : IVec S3x4194304 32 := broadcastInDim S3x4194304 ![0, 1] bcast_S3x1_S3x4194304_0_1 arg0
  let v43 : IVec S3x4194304 32 := addi v39_1 v42
  let c_4 : IVec S_ 32 := constantI S_ 32 5#32
  let v44 : IVec S3x4194304 32 := broadcastInDim S3x4194304 ![] bcast_S_S3x4194304 c_4
  let v45 : IVec S3x4194304 32 := addi v43 v44
  (v41, v45)

def fn_threefry_part1 {F : FTy → Type} [FloatOps F] (arg0 : IVec S3x1 32) (arg1 : IVec S3x1 32) (v2 : IVec S3x1 32) (v18_0 : IVec S3x4194304 32) (v18_1 : IVec S3x4194304 32) (v19 : IVec S3x4194304 32) : IVec S3x4194304 32 × IVec S3x4194304 32 :=
  let v20 : IVec S3x4194304 32 := addi v18_0 v19
  let v21 : IVec S3x4194304 32 := broadcastInDim S3x4194304 ![0, 1] bcast_S3x1_S3x4194304_0_1 arg0
  let v22 : IVec S3x4194304 32 := addi v18_1 v21
  let c_1 : IVec S_ 32 := constantI S_ 32 2#32
  let v23 : IVec S3x4194304 32 := broadcastInDim S3x4194304 ![] bcast_S_S3x4194304 c_1
  let v24 : IVec S3x4194304 32 := addi v22 v23
  let v25_0 : IVec S3x4194304 32 := (fn_four_rounds (F := F) v20 v24).1
  let v25_1 : IVec S3x4194304 32 := (fn_four_rounds (F := F) v20 v24).2
  let v26 : IVec S3x4194304 32 := broadcastInDim S3x4194304 ![0, 1] bcast_S3x1_S3x4194304_0_1 arg0
  let v27 : IVec S3x4194304 32 := addi v25_0 v26
  let v28 : IVec S3x4194304 32 := broadcastInDim S3x4194304 ![0, 1] bcast_S3x1_S3x4194304_0_1 arg1
  let v29 : IVec S3x4194304 32 := addi v25_1 v28
  let c_2 : IVec S_ 32 := constantI S_ 32 3#32
  let v30 : IVec S3x4194304 32 := broadcastInDim S3x4194304 ![] bcast_S_S3x4194304 c_2
  let v31 : IVec S3x4194304 32 := addi v29 v30
  let v32_0 : IVec S3x4194304 32 := (fn_four_rounds_0 (F := F) v27 v31).1
  let v32_1 : IVec S3x4194304 32 := (fn_four_rounds_0 (F := F) v27 v31).2
  let v33 : IVec S3x4194304 32 := broadcastInDim S3x4194304 ![0, 1] bcast_S3x1_S3x4194304_0_1 arg1
  let v34 : IVec S3x4194304 32 := addi v32_0 v33
  let v35 : IVec S3x4194304 32 := broadcastInDim S3x4194304 ![0, 1] bcast_S3x1_S3x4194304_0_1 v2
  let v36 : IVec S3x4194304 32 := addi v32_1 v35
  let c_3 : IVec S_ 32 := constantI S_ 32 4#32
  let v37 : IVec S3x4194304 32 := broadcastInDim S3x4194304 ![] bcast_S_S3x4194304 c_3
  let v38 : IVec S3x4194304 32 := addi v36 v37
  fn_threefry_part2 (F := F) arg0 v2 v34 v38

def fn_threefry {F : FTy → Type} [FloatOps F] (arg0 : IVec S3x1 32) (arg1 : IVec S3x1 32) (arg2 : IVec S4194304 32) (arg3 : IVec S4194304 32) : IVec S3x4194304 32 × IVec S3x4194304 32 :=
  let v0 : IVec S3x1 32 := xori arg0 arg1
  let c : IVec S_ 32 := constantI S_ 32 466688986#32
  let v1 : IVec S3x1 32 := broadcastInDim S3x1 ![] bcast_S_S3x1 c
  let v2 : IVec S3x1 32 := xori v0 v1
  let v3 : IVec S1x4194304 32 := broadcastInDim S1x4194304 ![1] bcast_S4194304_S1x4194304_1 arg2
  let v4 : IVec S3x4194304 32 := broadcastInDim S3x4194304 ![0, 1] bcast_S1x4194304_S3x4194304_0_1 v3
  let v5 : IVec S3x4194304 32 := broadcastInDim S3x4194304 ![0, 1] bcast_S3x1_S3x4194304_0_1 arg0
  let v6 : IVec S3x4194304 32 := addi v4 v5
  let v7 : IVec S1x4194304 32 := broadcastInDim S1x4194304 ![1] bcast_S4194304_S1x4194304_1 arg3
  let v8 : IVec S3x4194304 32 := broadcastInDim S3x4194304 ![0, 1] bcast_S1x4194304_S3x4194304_0_1 v7
  let v9 : IVec S3x4194304 32 := broadcastInDim S3x4194304 ![0, 1] bcast_S3x1_S3x4194304_0_1 arg1
  let v10 : IVec S3x4194304 32 := addi v8 v9
  let v11_0 : IVec S3x4194304 32 := (fn_four_rounds (F := F) v6 v10).1
  let v11_1 : IVec S3x4194304 32 := (fn_four_rounds (F := F) v6 v10).2
  let v12 : IVec S3x4194304 32 := broadcastInDim S3x4194304 ![0, 1] bcast_S3x1_S3x4194304_0_1 arg1
  let v13 : IVec S3x4194304 32 := addi v11_0 v12
  let v14 : IVec S3x4194304 32 := broadcastInDim S3x4194304 ![0, 1] bcast_S3x1_S3x4194304_0_1 v2
  let v15 : IVec S3x4194304 32 := addi v11_1 v14
  let c_0 : IVec S_ 32 := constantI S_ 32 1#32
  let v16 : IVec S3x4194304 32 := broadcastInDim S3x4194304 ![] bcast_S_S3x4194304 c_0
  let v17 : IVec S3x4194304 32 := addi v15 v16
  let v18_0 : IVec S3x4194304 32 := (fn_four_rounds_0 (F := F) v13 v17).1
  let v18_1 : IVec S3x4194304 32 := (fn_four_rounds_0 (F := F) v13 v17).2
  let v19 : IVec S3x4194304 32 := broadcastInDim S3x4194304 ![0, 1] bcast_S3x1_S3x4194304_0_1 v2
  fn_threefry_part1 (F := F) arg0 arg1 v2 v18_0 v18_1 v19

def fn_where {F : FTy → Type} [FloatOps F] (arg0 : IVec S4194304 1) (arg1 : FVec F S4194304 .f32) (arg2 : FVec F S4194304 .f32) : FVec F S4194304 .f32 :=
  let v0 : FVec F S4194304 .f32 := select arg0 arg1 arg2
  v0

def fn_where_1 {F : FTy → Type} [FloatOps F] (arg0 : IVec S4194304 1) (arg1 : FVec F S4194304 .f32) (arg2 : FVec F S4194304 .f32) : FVec F S4194304 .f32 :=
  let v0 : FVec F S4194304 .f32 := select arg0 arg1 arg2
  v0

def fn_part5 {F : FTy → Type} [FloatOps F] (main_arg5 : FVec F S4194304 .f32) (main_v67 : FVec F S4194304 .f32) (main_v89 : FVec F S4194304 .f32) : IVec S4194304 1 :=
  let main_v90 : FVec F S4194304 .f32 := Host.absf main_v89
  let main_cst_27 : FVec F S_ .f32 := constant S_ .f32 0x35800000#32
  let main_v91 : FVec F S4194304 .f32 := broadcastInDim S4194304 ![] bcast_S_S4194304 main_cst_27
  let main_v92 : IVec S4194304 1 := cmpf .ole main_v90 main_v91
  let main_v93 : FVec F S4194304 .f32 := subf main_arg5 main_v67
  let main_v94 : FVec F S4194304 .f32 := Host.absf main_v93
  let main_cst_28 : FVec F S_ .f32 := constant S_ .f32 0x35800000#32
  let main_v95 : FVec F S4194304 .f32 := broadcastInDim S4194304 ![] bcast_S_S4194304 main_cst_28
  let main_v96 : IVec S4194304 1 := cmpf .ole main_v94 main_v95
  let main_v97 : IVec S4194304 1 := andi main_v92 main_v96
  main_v97

def fn_part4 {F : FTy → Type} [FloatOps F] (main_arg4 : FVec F S4194304 .f32) (main_arg5 : FVec F S4194304 .f32) (main_v0 : FVec F S4194304 .f32) (main_v1 : FVec F S4194304 .f32) (main_v25 : FVec F S4194304 .f32) (main_v29 : FVec F S4194304 .f32) (main_v33 : FVec F S4194304 .f32) (main_v39 : FVec F S4194304 .f32) (main_v53 : FVec F S4194304 .f32) (main_v67 : FVec F S4194304 .f32) (main_v69 : IVec S4194304 1) : IVec S4194304 1 :=
  let main_v70 : FVec F S4194304 .f32 := fn_where_1 (F := F) main_v69 main_v1 main_v0
  let main_cst_23 : FVec F S_ .f32 := constant S_ .f32 0x00000000#32
  let main_v71 : FVec F S4194304 .f32 := broadcastInDim S4194304 ![] bcast_S_S4194304 main_cst_23
  let main_v72 : IVec S4194304 1 := cmpf .ole main_v29 main_v71
  let main_v73 : FVec F S4194304 .f32 := fn_where_1 (F := F) main_v72 main_v1 main_v0
  let main_v74 : FVec F S4194304 .f32 := addf main_v70 main_v73
  let main_cst_24 : FVec F S_ .f32 := constant S_ .f32 0x45000000#32
  let main_v75 : FVec F S4194304 .f32 := broadcastInDim S4194304 ![] bcast_S_S4194304 main_cst_24
  let main_v76 : IVec S4194304 1 := cmpf .oge main_v33 main_v75
  let main_v77 : FVec F S4194304 .f32 := fn_where_1 (F := F) main_v76 main_v1 main_v0
  let main_v78 : FVec F S4194304 .f32 := addf main_v74 main_v77
  let main_cst_25 : FVec F S_ .f32 := constant S_ .f32 0x00000000#32
  let main_v79 : FVec F S4194304 .f32 := broadcastInDim S4194304 ![] bcast_S_S4194304 main_cst_25
  let main_v80 : IVec S4194304 1 := cmpf .ole main_v33 main_v79
  let main_v81 : FVec F S4194304 .f32 := fn_where_1 (F := F) main_v80 main_v1 main_v0
  let main_v82 : FVec F S4194304 .f32 := addf main_v78 main_v81
  let main_v83 : FVec F S4194304 .f32 := mulf main_v82 main_v39
  let main_cst_26 : FVec F S_ .f32 := constant S_ .f32 0x3F800000#32
  let main_v84 : FVec F S4194304 .f32 := broadcastInDim S4194304 ![] bcast_S_S4194304 main_cst_26
  let main_v85 : FVec F S4194304 .f32 := subf main_v82 main_v84
  let main_v86 : FVec F S4194304 .f32 := Host.absf main_v85
  let main_v87 : FVec F S4194304 .f32 := mulf main_v86 main_v25
  let main_v88 : FVec F S4194304 .f32 := addf main_v83 main_v87
  let main_v89 : FVec F S4194304 .f32 := subf main_arg4 main_v53
  fn_part5 (F := F) main_arg5 main_v67 main_v89

def fn_part3 {F : FTy → Type} [FloatOps F] (main_arg4 : FVec F S4194304 .f32) (main_arg5 : FVec F S4194304 .f32) (main_v0 : FVec F S4194304 .f32) (main_v1 : FVec F S4194304 .f32) (main_v25 : FVec F S4194304 .f32) (main_v29 : FVec F S4194304 .f32) (main_v33 : FVec F S4194304 .f32) (main_v39 : FVec F S4194304 .f32) (main_v46 : FVec F S4194304 .f32) (main_v48 : IVec S4194304 1) (main_v50 : FVec F S4194304 .f32) : IVec S4194304 1 :=
  let main_v51 : FVec F S4194304 .f32 := minimumf main_v29 main_v50
  let main_v52 : FVec F S4194304 .f32 := maximumf main_v0 main_v51
  let main_v53 : FVec F S4194304 .f32 := fn_where_1 (F := F) main_v48 main_v52 main_v46
  let main_cst_18 : FVec F S_ .f32 := constant S_ .f32 0x45000000#32
  let main_v54 : FVec F S4194304 .f32 := broadcastInDim S4194304 ![] bcast_S_S4194304 main_cst_18
  let main_v55 : IVec S4194304 1 := cmpf .oge main_v33 main_v54
  let main_cst_19 : FVec F S_ .f32 := constant S_ .f32 0x44FFE000#32
  let main_v56 : FVec F S4194304 .f32 := broadcastInDim S4194304 ![] bcast_S_S4194304 main_cst_19
  let main_v57 : FVec F S4194304 .f32 := mulf main_v1 main_v56
  let main_v58 : FVec F S4194304 .f32 := minimumf main_v33 main_v57
  let main_v59 : FVec F S4194304 .f32 := maximumf main_v0 main_v58
  let main_v60 : FVec F S4194304 .f32 := fn_where_1 (F := F) main_v55 main_v59 main_v33
  let main_cst_20 : FVec F S_ .f32 := constant S_ .f32 0x00000000#32
  let main_v61 : FVec F S4194304 .f32 := broadcastInDim S4194304 ![] bcast_S_S4194304 main_cst_20
  let main_v62 : IVec S4194304 1 := cmpf .ole main_v33 main_v61
  let main_cst_21 : FVec F S_ .f32 := constant S_ .f32 0x44FFE000#32
  let main_v63 : FVec F S4194304 .f32 := broadcastInDim S4194304 ![] bcast_S_S4194304 main_cst_21
  let main_v64 : FVec F S4194304 .f32 := mulf main_v1 main_v63
  let main_v65 : FVec F S4194304 .f32 := minimumf main_v33 main_v64
  let main_v66 : FVec F S4194304 .f32 := maximumf main_v0 main_v65
  let main_v67 : FVec F S4194304 .f32 := fn_where_1 (F := F) main_v62 main_v66 main_v60
  let main_cst_22 : FVec F S_ .f32 := constant S_ .f32 0x45000000#32
  let main_v68 : FVec F S4194304 .f32 := broadcastInDim S4194304 ![] bcast_S_S4194304 main_cst_22
  let main_v69 : IVec S4194304 1 := cmpf .oge main_v29 main_v68
  fn_part4 (F := F) main_arg4 main_arg5 main_v0 main_v1 main_v25 main_v29 main_v33 main_v39 main_v53 main_v67 main_v69

def fn_part2 {F : FTy → Type} [FloatOps F] (main_arg1 : FVec F S4194304 .f32) (main_arg4 : FVec F S4194304 .f32) (main_arg5 : FVec F S4194304 .f32) (main_v0 : FVec F S4194304 .f32) (main_v1 : FVec F S4194304 .f32) (main_v14 : FVec F S3x4194304 .f32) (main_v25 : FVec F S4194304 .f32) (main_v29 : FVec F S4194304 .f32) (main_v32 : FVec F S4194304 .f32) : IVec S4194304 1 :=
  let main_v33 : FVec F S4194304 .f32 := addf main_arg1 main_v32
  let main_v34 : FVec F S1x4194304 .f32 := (extractStridedSlice S1x4194304 ![2, 0] · slices_S3x4194304_S1x4194304_2_0) main_v14
  let main_v35 : FVec F S4194304 .f32 := shapeCast S4194304 main_v34 shapeCasts_S1x4194304_S4194304
  let main_cst_12 : FVec F S_ .f32 := constant S_ .f32 0x40000000#32
  let main_v36 : FVec F S4194304 .f32 := broadcastInDim S4194304 ![] bcast_S_S4194304 main_cst_12
  let main_v37 : FVec F S4194304 .f32 := mulf main_v35 main_v36
  let main_cst_13 : FVec F S_ .f32 := constant S_ .f32 0x40490FD8#32
  let main_v38 : FVec F S4194304 .f32 := broadcastInDim S4194304 ![] bcast_S_S4194304 main_cst_13
  let main_v39 : FVec F S4194304 .f32 := mulf main_v37 main_v38
  let main_cst_14 : FVec F S_ .f32 := constant S_ .f32 0x45000000#32
  let main_v40 : FVec F S4194304 .f32 := broadcastInDim S4194304 ![] bcast_S_S4194304 main_cst_14
  let main_v41 : IVec S4194304 1 := cmpf .oge main_v29 main_v40
  let main_cst_15 : FVec F S_ .f32 := constant S_ .f32 0x44FFE000#32
  let main_v42 : FVec F S4194304 .f32 := broadcastInDim S4194304 ![] bcast_S_S4194304 main_cst_15
  let main_v43 : FVec F S4194304 .f32 := mulf main_v1 main_v42
  let main_v44 : FVec F S4194304 .f32 := minimumf main_v29 main_v43
  let main_v45 : FVec F S4194304 .f32 := maximumf main_v0 main_v44
  let main_v46 : FVec F S4194304 .f32 := fn_where_1 (F := F) main_v41 main_v45 main_v29
  let main_cst_16 : FVec F S_ .f32 := constant S_ .f32 0x00000000#32
  let main_v47 : FVec F S4194304 .f32 := broadcastInDim S4194304 ![] bcast_S_S4194304 main_cst_16
  let main_v48 : IVec S4194304 1 := cmpf .ole main_v29 main_v47
  let main_cst_17 : FVec F S_ .f32 := constant S_ .f32 0x44FFE000#32
  let main_v49 : FVec F S4194304 .f32 := broadcastInDim S4194304 ![] bcast_S_S4194304 main_cst_17
  let main_v50 : FVec F S4194304 .f32 := mulf main_v1 main_v49
  fn_part3 (F := F) main_arg4 main_arg5 main_v0 main_v1 main_v25 main_v29 main_v33 main_v39 main_v46 main_v48 main_v50

def fn_part1 {F : FTy → Type} [FloatOps F] (main_arg0 : FVec F S4194304 .f32) (main_arg1 : FVec F S4194304 .f32) (main_arg2 : FVec F S4194304 .f32) (main_arg4 : FVec F S4194304 .f32) (main_arg5 : FVec F S4194304 .f32) (main_v0 : FVec F S4194304 .f32) (main_v1 : FVec F S4194304 .f32) (main_v12 : FVec F S3x4194304 .f32) (main_v13 : FVec F S3x4194304 .f32) : IVec S4194304 1 :=
  let main_v14 : FVec F S3x4194304 .f32 := maximumf main_v12 main_v13
  let main_v15 : FVec F S1x4194304 .f32 := (extractStridedSlice S1x4194304 ![0, 0] · slices_S3x4194304_S1x4194304_0_0) main_v14
  let main_v16 : FVec F S4194304 .f32 := shapeCast S4194304 main_v15 shapeCasts_S1x4194304_S4194304
  let main_cst_7 : FVec F S_ .f32 := constant S_ .f32 0x40000000#32
  let main_v17 : FVec F S4194304 .f32 := broadcastInDim S4194304 ![] bcast_S_S4194304 main_cst_7
  let main_v18 : FVec F S4194304 .f32 := mulf main_v16 main_v17
  let main_cst_8 : FVec F S_ .f32 := constant S_ .f32 0x40490FD8#32
  let main_v19 : FVec F S4194304 .f32 := broadcastInDim S4194304 ![] bcast_S_S4194304 main_cst_8
  let main_v20 : FVec F S4194304 .f32 := mulf main_v18 main_v19
  let main_v21 : FVec F S1x4194304 .f32 := (extractStridedSlice S1x4194304 ![1, 0] · slices_S3x4194304_S1x4194304_1_0) main_v14
  let main_v22 : FVec F S4194304 .f32 := shapeCast S4194304 main_v21 shapeCasts_S1x4194304_S4194304
  let main_cst_9 : FVec F S_ .f32 := constant S_ .f32 0x3C23D70A#32
  let main_v23 : FVec F S4194304 .f32 := broadcastInDim S4194304 ![] bcast_S_S4194304 main_cst_9
  let main_v24 : IVec S4194304 1 := cmpf .ole main_v22 main_v23
  let main_v25 : FVec F S4194304 .f32 := fn_where (F := F) main_v24 main_v20 main_arg2
  let main_v26 : FVec F S4194304 .f32 := Host.cos main_v25
  let main_cst_10 : FVec F S_ .f32 := constant S_ .f32 0x3F800000#32
  let main_v27 : FVec F S4194304 .f32 := broadcastInDim S4194304 ![] bcast_S_S4194304 main_cst_10
  let main_v28 : FVec F S4194304 .f32 := mulf main_v26 main_v27
  let main_v29 : FVec F S4194304 .f32 := addf main_arg0 main_v28
  let main_v30 : FVec F S4194304 .f32 := Host.sin main_v25
  let main_cst_11 : FVec F S_ .f32 := constant S_ .f32 0x3F800000#32
  let main_v31 : FVec F S4194304 .f32 := broadcastInDim S4194304 ![] bcast_S_S4194304 main_cst_11
  let main_v32 : FVec F S4194304 .f32 := mulf main_v30 main_v31
  fn_part2 (F := F) main_arg1 main_arg4 main_arg5 main_v0 main_v1 main_v14 main_v25 main_v29 main_v32

def fn {F : FTy → Type} [FloatOps F] (main_arg0 : FVec F S4194304 .f32) (main_arg1 : FVec F S4194304 .f32) (main_arg2 : FVec F S4194304 .f32) (main_arg3 : FVec F S2048x2048 .f32) (main_arg4 : FVec F S4194304 .f32) (main_arg5 : FVec F S4194304 .f32) (main_arg6 : FVec F S4194304 .f32) : IVec S4194304 1 :=
  let main_c : IVec S3x1 32 := fun i => lit0 (S3x1.rowMajor i)
  let main_c_0 : IVec S3x1 32 := fun i => lit1 (S3x1.rowMajor i)
  let main_cst : FVec F S_ .f32 := constant S_ .f32 0x00000000#32
  let main_v0 : FVec F S4194304 .f32 := broadcastInDim S4194304 ![] bcast_S_S4194304 main_cst
  let main_cst_1 : FVec F S_ .f32 := constant S_ .f32 0x3F800000#32
  let main_v1 : FVec F S4194304 .f32 := broadcastInDim S4194304 ![] bcast_S_S4194304 main_cst_1
  let main_v2 : IVec S4194304 32 := iotaInDim S4194304 32 0
  let main_c_2 : IVec S_ 32 := constantI S_ 32 0#32
  let main_v3 : IVec S4194304 32 := broadcastInDim S4194304 ![] bcast_S_S4194304 main_c_2
  let main_v4_0 : IVec S3x4194304 32 := (fn_threefry (F := F) main_c main_c_0 main_v3 main_v2).1
  let main_v4_1 : IVec S3x4194304 32 := (fn_threefry (F := F) main_c main_c_0 main_v3 main_v2).2
  let main_v5 : IVec S3x4194304 32 := xori main_v4_0 main_v4_1
  let main_c_3 : IVec S_ 32 := constantI S_ 32 9#32
  let main_v6 : IVec S3x4194304 32 := broadcastInDim S3x4194304 ![] bcast_S_S3x4194304 main_c_3
  let main_v7 : IVec S3x4194304 32 := Host.shrui main_v5 main_v6
  let main_c_4 : IVec S_ 32 := constantI S_ 32 1065353216#32
  let main_v8 : IVec S3x4194304 32 := broadcastInDim S3x4194304 ![] bcast_S_S3x4194304 main_c_4
  let main_v9 : IVec S3x4194304 32 := ori main_v7 main_v8
  let main_v10 : FVec F S3x4194304 .f32 := bitcastToFloat .f32 main_v9
  let main_cst_5 : FVec F S_ .f32 := constant S_ .f32 0x3F800000#32
  let main_v11 : FVec F S3x4194304 .f32 := broadcastInDim S3x4194304 ![] bcast_S_S3x4194304 main_cst_5
  let main_v12 : FVec F S3x4194304 .f32 := subf main_v10 main_v11
  let main_cst_6 : FVec F S_ .f32 := constant S_ .f32 0x00000000#32
  let main_v13 : FVec F S3x4194304 .f32 := broadcastInDim S3x4194304 ![] bcast_S_S3x4194304 main_cst_6
  fn_part1 (F := F) main_arg0 main_arg1 main_arg2 main_arg4 main_arg5 main_v0 main_v1 main_v12 main_v13
-- ==== Pre_in_range.lean ====
abbrev S4194304 : Shape := ⟨1, ![4194304]⟩
abbrev S2048x2048 : Shape := ⟨2, ![2048, 2048]⟩
abbrev S_ : Shape := ⟨0, ![]⟩

class Facts : Prop where
  bcast_S_S4194304 : S_.BroadcastsInDim S4194304 (![] : Fin 0 → Fin S4194304.rank)

variable [Facts]

def fn {F : FTy → Type} [FloatOps F] (main_arg0 : FVec F S4194304 .f32) (main_arg1 : FVec F S4194304 .f32) (main_arg2 : FVec F S4194304 .f32) (main_arg3 : FVec F S2048x2048 .f32) : IVec S4194304 1 :=
  let main_cst : FVec F S_ .f32 := constant S_ .f32 0x00000000#32
  let main_v0 : FVec F S4194304 .f32 := broadcastInDim S4194304 ![] bcast_S_S4194304 main_cst
  let main_v1 : IVec S4194304 1 := cmpf .oge main_arg0 main_v0
  let main_cst_0 : FVec F S_ .f32 := constant S_ .f32 0x3F800000#32
  let main_v2 : FVec F S4194304 .f32 := broadcastInDim S4194304 ![] bcast_S_S4194304 main_cst_0
  let main_v3 : IVec S4194304 1 := cmpf .olt main_arg0 main_v2
  let main_v4 : IVec S4194304 1 := andi main_v1 main_v3
  let main_cst_1 : FVec F S_ .f32 := constant S_ .f32 0x00000000#32
  let main_v5 : FVec F S4194304 .f32 := broadcastInDim S4194304 ![] bcast_S_S4194304 main_cst_1
  let main_v6 : IVec S4194304 1 := cmpf .oge main_arg1 main_v5
  let main_v7 : IVec S4194304 1 := andi main_v4 main_v6
  let main_cst_2 : FVec F S_ .f32 := constant S_ .f32 0x3F800000#32
  let main_v8 : FVec F S4194304 .f32 := broadcastInDim S4194304 ![] bcast_S_S4194304 main_cst_2
  let main_v9 : IVec S4194304 1 := cmpf .olt main_arg1 main_v8
  let main_v10 : IVec S4194304 1 := andi main_v7 main_v9
  let main_cst_3 : FVec F S_ .f32 := constant S_ .f32 0x00000000#32
  let main_v11 : FVec F S4194304 .f32 := broadcastInDim S4194304 ![] bcast_S_S4194304 main_cst_3
  let main_v12 : IVec S4194304 1 := cmpf .oge main_arg2 main_v11
  let main_v13 : IVec S4194304 1 := andi main_v10 main_v12
  let main_cst_4 : FVec F S_ .f32 := constant S_ .f32 0x40C90FD8#32
  let main_v14 : FVec F S4194304 .f32 := broadcastInDim S4194304 ![] bcast_S_S4194304 main_cst_4
  let main_v15 : IVec S4194304 1 := cmpf .olt main_arg2 main_v14
  let main_v16 : IVec S4194304 1 := andi main_v13 main_v15
  main_v16
-- ==== Kernel.lean ====
abbrev S4194304 : Shape := ⟨1, ![4194304]⟩
abbrev S2048x2048 : Shape := ⟨2, ![2048, 2048]⟩
abbrev S3 : Shape := ⟨1, ![3]⟩
abbrev S3x1 : Shape := ⟨2, ![3, 1]⟩
abbrev S_ : Shape := ⟨0, ![]⟩
abbrev S1x4194304 : Shape := ⟨2, ![1, 4194304]⟩
abbrev S3x4194304 : Shape := ⟨2, ![3, 4194304]⟩
abbrev S524288 : Shape := ⟨1, ![524288]⟩

abbrev nBuf : Space → Nat
  | .hbm => 273
  | .vmem => 16
  | .smem => 0
  | _ => 0

abbrev hbmTy0_0 (i : Nat) : BufTy := match i % 128 with
  | 0 => ⟨S4194304, .f32⟩
  | 1 => ⟨S4194304, .f32⟩
  | 2 => ⟨S4194304, .f32⟩
  | 3 => ⟨S2048x2048, .f32⟩
  | 4 => ⟨S3, .i32⟩
  | 5 => ⟨S3x1, .i32⟩
  | 6 => ⟨S3, .i32⟩
  | 7 => ⟨S3x1, .i32⟩
  | 8 => ⟨S3x1, .i32⟩
  | 9 => ⟨S4194304, .i32⟩
  | 10 => ⟨S_, .i32⟩
  | 11 => ⟨S4194304, .i32⟩
  | 12 => ⟨S1x4194304, .i32⟩
  | 13 => ⟨S3x4194304, .i32⟩
  | 14 => ⟨S3x4194304, .i32⟩
  | 15 => ⟨S3x4194304, .i32⟩
  | 16 => ⟨S1x4194304, .i32⟩
  | 17 => ⟨S3x4194304, .i32⟩
  | 18 => ⟨S3x4194304, .i32⟩
  | 19 => ⟨S3x4194304, .i32⟩
  | 20 => ⟨S3x4194304, .i32⟩
  | 21 => ⟨S_, .i32⟩
  | 22 => ⟨S3x4194304, .i32⟩
  | 23 => ⟨S3x4194304, .i32⟩
  | 24 => ⟨S_, .i32⟩
  | 25 => ⟨S3x4194304, .i32⟩
  | 26 => ⟨S3x4194304, .i32⟩
  | 27 => ⟨S3x4194304, .i32⟩
  | 28 => ⟨S3x4194304, .i32⟩
  | 29 => ⟨S3x4194304, .i32⟩
  | 30 => ⟨S_, .i32⟩
  | 31 => ⟨S3x4194304, .i32⟩
  | 32 => ⟨S3x4194304, .i32⟩
  | 33 => ⟨S_, .i32⟩
  | 34 => ⟨S3x4194304, .i32⟩
  | 35 => ⟨S3x4194304, .i32⟩
  | 36 => ⟨S3x4194304, .i32⟩
  | 37 => ⟨S3x4194304, .i32⟩
  | 38 => ⟨S3x4194304, .i32⟩
  | 39 => ⟨S_, .i32⟩
  | 40 => ⟨S3x4194304, .i32⟩
  | 41 => ⟨S3x4194304, .i32⟩
  | 42 => ⟨S_, .i32⟩
  | 43 => ⟨S3x4194304, .i32⟩
  | 44 => ⟨S3x4194304, .i32⟩
  | 45 => ⟨S3x4194304, .i32⟩
  | 46 => ⟨S3x4194304, .i32⟩
  | 47 => ⟨S3x4194304, .i32⟩
  | 48 => ⟨S_, .i32⟩
  | 49 => ⟨S3x4194304, .i32⟩
  | 50 => ⟨S3x4194304, .i32⟩
  | 51 => ⟨S_, .i32⟩
  | 52 => ⟨S3x4194304, .i32⟩
  | 53 => ⟨S3x4194304, .i32⟩
  | 54 => ⟨S3x4194304, .i32⟩
  | 55 => ⟨S3x4194304, .i32⟩
  | 56 => ⟨S3x4194304, .i32⟩
  | 57 => ⟨S3x4194304, .i32⟩
  | 58 => ⟨S3x4194304, .i32⟩
  | 59 => ⟨S3x4194304, .i32⟩
  | 60 => ⟨S_, .i32⟩
  | 61 => ⟨S3x4194304, .i32⟩
  | 62 => ⟨S3x4194304, .i32⟩
  | 63 => ⟨S3x4194304, .i32⟩
  | 64 => ⟨S_, .i32⟩
  | 65 => ⟨S3x4194304, .i32⟩
  | 66 => ⟨S3x4194304, .i32⟩
  | 67 => ⟨S_, .i32⟩
  | 68 => ⟨S3x4194304, .i32⟩
  | 69 => ⟨S3x4194304, .i32⟩
  | 70 => ⟨S3x4194304, .i32⟩
  | 71 => ⟨S3x4194304, .i32⟩
  | 72 => ⟨S3x4194304, .i32⟩
  | 73 => ⟨S_, .i32⟩
  | 74 => ⟨S3x4194304, .i32⟩
  | 75 => ⟨S3x4194304, .i32⟩
  | 76 => ⟨S_, .i32⟩
  | 77 => ⟨S3x4194304, .i32⟩
  | 78 => ⟨S3x4194304, .i32⟩
  | 79 => ⟨S3x4194304, .i32⟩
  | 80 => ⟨S3x4194304, .i32⟩
  | 81 => ⟨S3x4194304, .i32⟩
  | 82 => ⟨S_, .i32⟩
  | 83 => ⟨S3x4194304, .i32⟩
  | 84 => ⟨S3x4194304, .i32⟩
  | 85 => ⟨S_, .i32⟩
  | 86 => ⟨S3x4194304, .i32⟩
  | 87 => ⟨S3x4194304, .i32⟩
  | 88 => ⟨S3x4194304, .i32⟩
  | 89 => ⟨S3x4194304, .i32⟩
  | 90 => ⟨S3x4194304, .i32⟩
  | 91 => ⟨S_, .i32⟩
  | 92 => ⟨S3x4194304, .i32⟩
  | 93 => ⟨S3x4194304, .i32⟩
  | 94 => ⟨S_, .i32⟩
  | 95 => ⟨S3x4194304, .i32⟩
  | 96 => ⟨S3x4194304, .i32⟩
  | 97 => ⟨S3x4194304, .i32⟩
  | 98 => ⟨S3x4194304, .i32⟩
  | 99 => ⟨S3x4194304, .i32⟩
  | 100 => ⟨S3x4194304, .i32⟩
  | 101 => ⟨S3x4194304, .i32⟩
  | 102 => ⟨S3x4194304, .i32⟩
  | 103 => ⟨S_, .i32⟩
  | 104 => ⟨S3x4194304, .i32⟩
  | 105 => ⟨S3x4194304, .i32⟩
  | 106 => ⟨S3x4194304, .i32⟩
  | 107 => ⟨S_, .i32⟩
  | 108 => ⟨S3x4194304, .i32⟩
  | 109 => ⟨S3x4194304, .i32⟩
  | 110 => ⟨S_, .i32⟩
  | 111 => ⟨S3x4194304, .i32⟩
  | 112 => ⟨S3x4194304, .i32⟩
  | 113 => ⟨S3x4194304, .i32⟩
  | 114 => ⟨S3x4194304, .i32⟩
  | 115 => ⟨S3x4194304, .i32⟩
  | 116 => ⟨S_, .i32⟩
  | 117 => ⟨S3x4194304, .i32⟩
  | 118 => ⟨S3x4194304, .i32⟩
  | 119 => ⟨S_, .i32⟩
  | 120 => ⟨S3x4194304, .i32⟩
  | 121 => ⟨S3x4194304, .i32⟩
  | 122 => ⟨S3x4194304, .i32⟩
  | 123 => ⟨S3x4194304, .i32⟩
  | 124 => ⟨S3x4194304, .i32⟩
  | 125 => ⟨S_, .i32⟩
  | 126 => ⟨S3x4194304, .i32⟩
  | 127 => ⟨S3x4194304, .i32⟩
  | _ => ⟨S4194304, .f32⟩

abbrev hbmTy0_1 (i : Nat) : BufTy := match i % 128 with
  | 0 => ⟨S_, .i32⟩
  | 1 => ⟨S3x4194304, .i32⟩
  | 2 => ⟨S3x4194304, .i32⟩
  | 3 => ⟨S3x4194304, .i32⟩
  | 4 => ⟨S3x4194304, .i32⟩
  | 5 => ⟨S3x4194304, .i32⟩
  | 6 => ⟨S_, .i32⟩
  | 7 => ⟨S3x4194304, .i32⟩
  | 8 => ⟨S3x4194304, .i32⟩
  | 9 => ⟨S_, .i32⟩
  | 10 => ⟨S3x4194304, .i32⟩
  | 11 => ⟨S3x4194304, .i32⟩
  | 12 => ⟨S3x4194304, .i32⟩
  | 13 => ⟨S3x4194304, .i32⟩
  | 14 => ⟨S3x4194304, .i32⟩
  | 15 => ⟨S3x4194304, .i32⟩
  | 16 => ⟨S3x4194304, .i32⟩
  | 17 => ⟨S3x4194304, .i32⟩
  | 18 => ⟨S_, .i32⟩
  | 19 => ⟨S3x4194304, .i32⟩
  | 20 => ⟨S3x4194304, .i32⟩
  | 21 => ⟨S3x4194304, .i32⟩
  | 22 => ⟨S_, .i32⟩
  | 23 => ⟨S3x4194304, .i32⟩
  | 24 => ⟨S3x4194304, .i32⟩
  | 25 => ⟨S_, .i32⟩
  | 26 => ⟨S3x4194304, .i32⟩
  | 27 => ⟨S3x4194304, .i32⟩
  | 28 => ⟨S3x4194304, .i32⟩
  | 29 => ⟨S3x4194304, .i32⟩
  | 30 => ⟨S3x4194304, .i32⟩
  | 31 => ⟨S_, .i32⟩
  | 32 => ⟨S3x4194304, .i32⟩
  | 33 => ⟨S3x4194304, .i32⟩
  | 34 => ⟨S_, .i32⟩
  | 35 => ⟨S3x4194304, .i32⟩
  | 36 => ⟨S3x4194304, .i32⟩
  | 37 => ⟨S3x4194304, .i32⟩
  | 38 => ⟨S3x4194304, .i32⟩
  | 39 => ⟨S3x4194304, .i32⟩
  | 40 => ⟨S_, .i32⟩
  | 41 => ⟨S3x4194304, .i32⟩
  | 42 => ⟨S3x4194304, .i32⟩
  | 43 => ⟨S_, .i32⟩
  | 44 => ⟨S3x4194304, .i32⟩
  | 45 => ⟨S3x4194304, .i32⟩
  | 46 => ⟨S3x4194304, .i32⟩
  | 47 => ⟨S3x4194304, .i32⟩
  | 48 => ⟨S3x4194304, .i32⟩
  | 49 => ⟨S_, .i32⟩
  | 50 => ⟨S3x4194304, .i32⟩
  | 51 => ⟨S3x4194304, .i32⟩
  | 52 => ⟨S_, .i32⟩
  | 53 => ⟨S3x4194304, .i32⟩
  | 54 => ⟨S3x4194304, .i32⟩
  | 55 => ⟨S3x4194304, .i32⟩
  | 56 => ⟨S3x4194304, .i32⟩
  | 57 => ⟨S3x4194304, .i32⟩
  | 58 => ⟨S3x4194304, .i32⟩
  | 59 => ⟨S3x4194304, .i32⟩
  | 60 => ⟨S3x4194304, .i32⟩
  | 61 => ⟨S_, .i32⟩
  | 62 => ⟨S3x4194304, .i32⟩
  | 63 => ⟨S3x4194304, .i32⟩
  | 64 => ⟨S3x4194304, .i32⟩
  | 65 => ⟨S_, .i32⟩
  | 66 => ⟨S3x4194304, .i32⟩
  | 67 => ⟨S3x4194304, .i32⟩
  | 68 => ⟨S_, .i32⟩
  | 69 => ⟨S3x4194304, .i32⟩
  | 70 => ⟨S3x4194304, .i32⟩
  | 71 => ⟨S3x4194304, .i32⟩
  | 72 => ⟨S3x4194304, .i32⟩
  | 73 => ⟨S3x4194304, .i32⟩
  | 74 => ⟨S_, .i32⟩
  | 75 => ⟨S3x4194304, .i32⟩
  | 76 => ⟨S3x4194304, .i32⟩
  | 77 => ⟨S_, .i32⟩
  | 78 => ⟨S3x4194304, .i32⟩
  | 79 => ⟨S3x4194304, .i32⟩
  | 80 => ⟨S3x4194304, .i32⟩
  | 81 => ⟨S3x4194304, .i32⟩
  | 82 => ⟨S3x4194304, .i32⟩
  | 83 => ⟨S_, .i32⟩
  | 84 => ⟨S3x4194304, .i32⟩
  | 85 => ⟨S3x4194304, .i32⟩
  | 86 => ⟨S_, .i32⟩
  | 87 => ⟨S3x4194304, .i32⟩
  | 88 => ⟨S3x4194304, .i32⟩
  | 89 => ⟨S3x4194304, .i32⟩
  | 90 => ⟨S3x4194304, .i32⟩
  | 91 => ⟨S3x4194304, .i32⟩
  | 92 => ⟨S_, .i32⟩
  | 93 => ⟨S3x4194304, .i32⟩
  | 94 => ⟨S3x4194304, .i32⟩
  | 95 => ⟨S_, .i32⟩
  | 96 => ⟨S3x4194304, .i32⟩
  | 97 => ⟨S3x4194304, .i32⟩
  | 98 => ⟨S3x4194304, .i32⟩
  | 99 => ⟨S3x4194304, .i32⟩
  | 100 => ⟨S3x4194304, .i32⟩
  | 101 => ⟨S3x4194304, .i32⟩
  | 102 => ⟨S3x4194304, .i32⟩
  | 103 => ⟨S3x4194304, .i32⟩
  | 104 => ⟨S_, .i32⟩
  | 105 => ⟨S3x4194304, .i32⟩
  | 106 => ⟨S3x4194304, .i32⟩
  | 107 => ⟨S3x4194304, .i32⟩
  | 108 => ⟨S_, .i32⟩
  | 109 => ⟨S3x4194304, .i32⟩
  | 110 => ⟨S3x4194304, .i32⟩
  | 111 => ⟨S_, .i32⟩
  | 112 => ⟨S3x4194304, .i32⟩
  | 113 => ⟨S3x4194304, .i32⟩
  | 114 => ⟨S3x4194304, .f32⟩
  | 115 => ⟨S_, .f32⟩
  | 116 => ⟨S3x4194304, .f32⟩
  | 117 => ⟨S3x4194304, .f32⟩
  | 118 => ⟨S1x4194304, .f32⟩
  | 119 => ⟨S4194304, .f32⟩
  | 120 => ⟨S_, .f32⟩
  | 121 => ⟨S4194304, .f32⟩
  | 122 => ⟨S4194304, .f32⟩
  | 123 => ⟨S_, .f32⟩
  | 124 => ⟨S4194304, .f32⟩
  | 125 => ⟨S4194304, .f32⟩
  | 126 => ⟨S1x4194304, .f32⟩
  | 127 => ⟨S4194304, .f32⟩
  | _ => ⟨S4194304, .f32⟩

abbrev hbmTy0_2 (i : Nat) : BufTy := match i % 128 with
  | 0 => ⟨S1x4194304, .f32⟩
  | 1 => ⟨S4194304, .f32⟩
  | 2 => ⟨S_, .f32⟩
  | 3 => ⟨S4194304, .f32⟩
  | 4 => ⟨S4194304, .f32⟩
  | 5 => ⟨S_, .f32⟩
  | 6 => ⟨S4194304, .f32⟩
  | 7 => ⟨S4194304, .f32⟩
  | 8 => ⟨S_, .f32⟩
  | 9 => ⟨S4194304, .f32⟩
  | 10 => ⟨S4194304, .i1⟩
  | 11 => ⟨S_, .f32⟩
  | 12 => ⟨S4194304, .f32⟩
  | 13 => ⟨S4194304, .f32⟩
  | 14 => ⟨S4194304, .f32⟩
  | 15 => ⟨S4194304, .f32⟩
  | 16 => ⟨S4194304, .f32⟩
  | _ => ⟨S4194304, .f32⟩

abbrev hbmTy (i : Nat) : BufTy := match i / 128 with
  | 0 => hbmTy0_0 i
  | 1 => hbmTy0_1 i
  | 2 => hbmTy0_2 i
  | _ => ⟨S4194304, .f32⟩

abbrev bufTy : (tb : Table) → Fin (tcTables nBuf tb) → BufTy
  | .hbm, ⟨i, _⟩ => hbmTy i
  | .local _ .vmem, ⟨0, _⟩ => ⟨S524288, .f32⟩
  | .local _ .vmem, ⟨1, _⟩ => ⟨S524288, .f32⟩
  | .local _ .vmem, ⟨2, _⟩ => ⟨S524288, .f32⟩
  | .local _ .vmem, ⟨3, _⟩ => ⟨S524288, .f32⟩
  | .local _ .vmem, ⟨4, _⟩ => ⟨S524288, .f32⟩
  | .local _ .vmem, ⟨5, _⟩ => ⟨S524288, .f32⟩
  | .local _ .vmem, ⟨6, _⟩ => ⟨S524288, .f32⟩
  | .local _ .vmem, ⟨7, _⟩ => ⟨S524288, .f32⟩
  | .local _ .vmem, ⟨8, _⟩ => ⟨S524288, .f32⟩
  | .local _ .vmem, ⟨9, _⟩ => ⟨S524288, .f32⟩
  | .local _ .vmem, ⟨10, _⟩ => ⟨S524288, .f32⟩
  | .local _ .vmem, ⟨11, _⟩ => ⟨S524288, .f32⟩
  | .local _ .vmem, ⟨12, _⟩ => ⟨S524288, .f32⟩
  | .local _ .vmem, ⟨13, _⟩ => ⟨S524288, .f32⟩
  | .local _ .vmem, ⟨14, _⟩ => ⟨S524288, .f32⟩
  | .local _ .vmem, ⟨15, _⟩ => ⟨S524288, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_c_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_c_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_c_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_14 : Ref sig .tc := ⟨.hbm, 73, rfl⟩
abbrev main_v54 : Ref sig .tc := ⟨.hbm, 74, rfl⟩
abbrev main_v55 : Ref sig .tc := ⟨.hbm, 75, rfl⟩
abbrev main_c_15 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_16 : Ref sig .tc := ⟨.hbm, 82, rfl⟩
abbrev main_v61 : Ref sig .tc := ⟨.hbm, 83, rfl⟩
abbrev main_v62 : Ref sig .tc := ⟨.hbm, 84, rfl⟩
abbrev main_c_17 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_18 : Ref sig .tc := ⟨.hbm, 91, rfl⟩
abbrev main_v68 : Ref sig .tc := ⟨.hbm, 92, rfl⟩
abbrev main_v69 : Ref sig .tc := ⟨.hbm, 93, rfl⟩
abbrev main_c_19 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_20 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_21 : Ref sig .tc := ⟨.hbm, 107, rfl⟩
abbrev main_v81 : Ref sig .tc := ⟨.hbm, 108, rfl⟩
abbrev main_v82 : Ref sig .tc := ⟨.hbm, 109, rfl⟩
abbrev main_c_22 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_23 : Ref sig .tc := ⟨.hbm, 116, rfl⟩
abbrev main_v88 : Ref sig .tc := ⟨.hbm, 117, rfl⟩
abbrev main_v89 : Ref sig .tc := ⟨.hbm, 118, rfl⟩
abbrev main_c_24 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_c_25 : Ref sig .tc := ⟨.hbm, 125, rfl⟩
abbrev main_v95 : Ref sig .tc := ⟨.hbm, 126, rfl⟩
abbrev main_v96 : Ref sig .tc := ⟨.hbm, 127, rfl⟩
abbrev main_c_26 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_c_27 : Ref sig .tc := ⟨.hbm, 134, rfl⟩
abbrev main_v102 : Ref sig .tc := ⟨.hbm, 135, rfl⟩
abbrev main_v103 : Ref sig .tc := ⟨.hbm, 136, rfl⟩
abbrev main_c_28 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_c_29 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_c_30 : Ref sig .tc := ⟨.hbm, 150, rfl⟩
abbrev main_v115 : Ref sig .tc := ⟨.hbm, 151, rfl⟩
abbrev main_v116 : Ref sig .tc := ⟨.hbm, 152, rfl⟩
abbrev main_c_31 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_c_32 : Ref sig .tc := ⟨.hbm, 159, rfl⟩
abbrev main_v122 : Ref sig .tc := ⟨.hbm, 160, rfl⟩
abbrev main_v123 : Ref sig .tc := ⟨.hbm, 161, rfl⟩
abbrev main_c_33 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_c_34 : Ref sig .tc := ⟨.hbm, 168, rfl⟩
abbrev main_v129 : Ref sig .tc := ⟨.hbm, 169, rfl⟩
abbrev main_v130 : Ref sig .tc := ⟨.hbm, 170, rfl⟩
abbrev main_c_35 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_c_36 : Ref sig .tc := ⟨.hbm, 177, rfl⟩
abbrev main_v136 : Ref sig .tc := ⟨.hbm, 178, rfl⟩
abbrev main_v137 : Ref sig .tc := ⟨.hbm, 179, rfl⟩
abbrev main_c_37 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_c_38 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_c_39 : Ref sig .tc := ⟨.hbm, 193, rfl⟩
abbrev main_v149 : Ref sig .tc := ⟨.hbm, 194, rfl⟩
abbrev main_v150 : Ref sig .tc := ⟨.hbm, 195, rfl⟩
abbrev main_c_40 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_c_41 : Ref sig .tc := ⟨.hbm, 202, rfl⟩
abbrev main_v156 : Ref sig .tc := ⟨.hbm, 203, rfl⟩
abbrev main_v157 : Ref sig .tc := ⟨.hbm, 204, rfl⟩
abbrev main_c_42 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_c_43 : Ref sig .tc := ⟨.hbm, 211, rfl⟩
abbrev main_v163 : Ref sig .tc := ⟨.hbm, 212, rfl⟩
abbrev main_v164 : Ref sig .tc := ⟨.hbm, 213, rfl⟩
abbrev main_c_44 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_c_45 : Ref sig .tc := ⟨.hbm, 220, rfl⟩
abbrev main_v170 : Ref sig .tc := ⟨.hbm, 221, rfl⟩
abbrev main_v171 : Ref sig .tc := ⟨.hbm, 222, rfl⟩
abbrev main_c_46 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_c_47 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_c_48 : Ref sig .tc := ⟨.hbm, 236, rfl⟩
abbrev main_v183 : Ref sig .tc := ⟨.hbm, 237, rfl⟩
abbrev main_v184 : Ref sig .tc := ⟨.hbm, 238, rfl⟩
abbrev main_c_49 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_cst : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_cst_50 : Ref sig .tc := ⟨.hbm, 248, rfl⟩
abbrev main_v192 : Ref sig .tc := ⟨.hbm, 249, rfl⟩
abbrev main_v193 : Ref sig .tc := ⟨.hbm, 250, rfl⟩
abbrev main_cst_51 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_cst_52 : Ref sig .tc := ⟨.hbm, 258, rfl⟩
abbrev main_v200 : Ref sig .tc := ⟨.hbm, 259, rfl⟩
abbrev main_v201 : Ref sig .tc := ⟨.hbm, 260, rfl⟩
abbrev main_cst_53 : Ref sig .tc := ⟨.hbm, 261, rfl⟩
abbrev main_v202 : Ref sig .tc := ⟨.hbm, 262, rfl⟩
abbrev main_v203 : Ref sig .tc := ⟨.hbm, 263, rfl⟩
abbrev main_cst_54 : Ref sig .tc := ⟨.hbm, 264, rfl⟩
abbrev main_v204 : Ref sig .tc := ⟨.hbm, 265, rfl⟩
abbrev main_v205 : Ref sig .tc := ⟨.hbm, 266, rfl⟩
abbrev main_cst_55 : Ref sig .tc := ⟨.hbm, 267, rfl⟩
abbrev main_call0_v0 : Ref sig .tc := ⟨.hbm, 268, rfl⟩
abbrev main_v206 : Ref sig .tc := ⟨.hbm, 269, rfl⟩
abbrev main_v207_0 : Ref sig .tc := ⟨.hbm, 270, rfl⟩
abbrev main_v207_1 : Ref sig .tc := ⟨.hbm, 271, rfl⟩
abbrev main_v207_2 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S524288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S524288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S524288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S524288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S524288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S524288 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S524288 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S524288 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4194304 : Shape := ⟨1, ![4194304]⟩
abbrev S2048x2048 : Shape := ⟨2, ![2048, 2048]⟩
abbrev S3x1 : Shape := ⟨2, ![3, 1]⟩
abbrev S_ : Shape := ⟨0, ![]⟩
abbrev S1x4194304 : Shape := ⟨2, ![1, 4194304]⟩
abbrev S3x4194304 : Shape := ⟨2, ![3, 4194304]⟩

abbrev nBuf : Space → Nat
  | .hbm => 348
  | .vmem => 0
  | .smem => 0
  | _ => 0

abbrev hbmTy0_0 (i : Nat) : BufTy := match i % 128 with
  | 0 => ⟨S4194304, .f32⟩
  | 1 => ⟨S4194304, .f32⟩
  | 2 => ⟨S4194304, .f32⟩
  | 3 => ⟨S2048x2048, .f32⟩
  | 4 => ⟨S3x1, .i32⟩
  | 5 => ⟨S3x1, .i32⟩
  | 6 => ⟨S_, .f32⟩
  | 7 => ⟨S4194304, .f32⟩
  | 8 => ⟨S_, .f32⟩
  | 9 => ⟨S4194304, .f32⟩
  | 10 => ⟨S4194304, .i32⟩
  | 11 => ⟨S_, .i32⟩
  | 12 => ⟨S4194304, .i32⟩
  | 13 => ⟨S3x1, .i32⟩
  | 14 => ⟨S_, .i32⟩
  | 15 => ⟨S3x1, .i32⟩
  | 16 => ⟨S3x1, .i32⟩
  | 17 => ⟨S1x4194304, .i32⟩
  | 18 => ⟨S3x4194304, .i32⟩
  | 19 => ⟨S3x4194304, .i32⟩
  | 20 => ⟨S3x4194304, .i32⟩
  | 21 => ⟨S1x4194304, .i32⟩
  | 22 => ⟨S3x4194304, .i32⟩
  | 23 => ⟨S3x4194304, .i32⟩
  | 24 => ⟨S3x4194304, .i32⟩
  | 25 => ⟨S3x4194304, .i32⟩
  | 26 => ⟨S_, .i32⟩
  | 27 => ⟨S3x4194304, .i32⟩
  | 28 => ⟨S3x4194304, .i32⟩
  | 29 => ⟨S_, .i32⟩
  | 30 => ⟨S3x4194304, .i32⟩
  | 31 => ⟨S3x4194304, .i32⟩
  | 32 => ⟨S3x4194304, .i32⟩
  | 33 => ⟨S3x4194304, .i32⟩
  | 34 => ⟨S3x4194304, .i32⟩
  | 35 => ⟨S_, .i32⟩
  | 36 => ⟨S3x4194304, .i32⟩
  | 37 => ⟨S3x4194304, .i32⟩
  | 38 => ⟨S_, .i32⟩
  | 39 => ⟨S3x4194304, .i32⟩
  | 40 => ⟨S3x4194304, .i32⟩
  | 41 => ⟨S3x4194304, .i32⟩
  | 42 => ⟨S3x4194304, .i32⟩
  | 43 => ⟨S3x4194304, .i32⟩
  | 44 => ⟨S_, .i32⟩
  | 45 => ⟨S3x4194304, .i32⟩
  | 46 => ⟨S3x4194304, .i32⟩
  | 47 => ⟨S_, .i32⟩
  | 48 => ⟨S3x4194304, .i32⟩
  | 49 => ⟨S3x4194304, .i32⟩
  | 50 => ⟨S3x4194304, .i32⟩
  | 51 => ⟨S3x4194304, .i32⟩
  | 52 => ⟨S3x4194304, .i32⟩
  | 53 => ⟨S_, .i32⟩
  | 54 => ⟨S3x4194304, .i32⟩
  | 55 => ⟨S3x4194304, .i32⟩
  | 56 => ⟨S_, .i32⟩
  | 57 => ⟨S3x4194304, .i32⟩
  | 58 => ⟨S3x4194304, .i32⟩
  | 59 => ⟨S3x4194304, .i32⟩
  | 60 => ⟨S3x4194304, .i32⟩
  | 61 => ⟨S3x4194304, .i32⟩
  | 62 => ⟨S3x4194304, .i32⟩
  | 63 => ⟨S3x4194304, .i32⟩
  | 64 => ⟨S3x4194304, .i32⟩
  | 65 => ⟨S_, .i32⟩
  | 66 => ⟨S3x4194304, .i32⟩
  | 67 => ⟨S3x4194304, .i32⟩
  | 68 => ⟨S3x4194304, .i32⟩
  | 69 => ⟨S_, .i32⟩
  | 70 => ⟨S3x4194304, .i32⟩
  | 71 => ⟨S3x4194304, .i32⟩
  | 72 => ⟨S_, .i32⟩
  | 73 => ⟨S3x4194304, .i32⟩
  | 74 => ⟨S3x4194304, .i32⟩
  | 75 => ⟨S3x4194304, .i32⟩
  | 76 => ⟨S3x4194304, .i32⟩
  | 77 => ⟨S3x4194304, .i32⟩
  | 78 => ⟨S_, .i32⟩
  | 79 => ⟨S3x4194304, .i32⟩
  | 80 => ⟨S3x4194304, .i32⟩
  | 81 => ⟨S_, .i32⟩
  | 82 => ⟨S3x4194304, .i32⟩
  | 83 => ⟨S3x4194304, .i32⟩
  | 84 => ⟨S3x4194304, .i32⟩
  | 85 => ⟨S3x4194304, .i32⟩
  | 86 => ⟨S3x4194304, .i32⟩
  | 87 => ⟨S_, .i32⟩
  | 88 => ⟨S3x4194304, .i32⟩
  | 89 => ⟨S3x4194304, .i32⟩
  | 90 => ⟨S_, .i32⟩
  | 91 => ⟨S3x4194304, .i32⟩
  | 92 => ⟨S3x4194304, .i32⟩
  | 93 => ⟨S3x4194304, .i32⟩
  | 94 => ⟨S3x4194304, .i32⟩
  | 95 => ⟨S3x4194304, .i32⟩
  | 96 => ⟨S_, .i32⟩
  | 97 => ⟨S3x4194304, .i32⟩
  | 98 => ⟨S3x4194304, .i32⟩
  | 99 => ⟨S_, .i32⟩
  | 100 => ⟨S3x4194304, .i32⟩
  | 101 => ⟨S3x4194304, .i32⟩
  | 102 => ⟨S3x4194304, .i32⟩
  | 103 => ⟨S3x4194304, .i32⟩
  | 104 => ⟨S3x4194304, .i32⟩
  | 105 => ⟨S3x4194304, .i32⟩
  | 106 => ⟨S3x4194304, .i32⟩
  | 107 => ⟨S3x4194304, .i32⟩
  | 108 => ⟨S_, .i32⟩
  | 109 => ⟨S3x4194304, .i32⟩
  | 110 => ⟨S3x4194304, .i32⟩
  | 111 => ⟨S3x4194304, .i32⟩
  | 112 => ⟨S_, .i32⟩
  | 113 => ⟨S3x4194304, .i32⟩
  | 114 => ⟨S3x4194304, .i32⟩
  | 115 => ⟨S_, .i32⟩
  | 116 => ⟨S3x4194304, .i32⟩
  | 117 => ⟨S3x4194304, .i32⟩
  | 118 => ⟨S3x4194304, .i32⟩
  | 119 => ⟨S3x4194304, .i32⟩
  | 120 => ⟨S3x4194304, .i32⟩
  | 121 => ⟨S_, .i32⟩
  | 122 => ⟨S3x4194304, .i32⟩
  | 123 => ⟨S3x4194304, .i32⟩
  | 124 => ⟨S_, .i32⟩
  | 125 => ⟨S3x4194304, .i32⟩
  | 126 => ⟨S3x4194304, .i32⟩
  | 127 => ⟨S3x4194304, .i32⟩
  | _ => ⟨S4194304, .f32⟩

abbrev hbmTy0_1 (i : Nat) : BufTy := match i % 128 with
  | 0 => ⟨S3x4194304, .i32⟩
  | 1 => ⟨S3x4194304, .i32⟩
  | 2 => ⟨S_, .i32⟩
  | 3 => ⟨S3x4194304, .i32⟩
  | 4 => ⟨S3x4194304, .i32⟩
  | 5 => ⟨S_, .i32⟩
  | 6 => ⟨S3x4194304, .i32⟩
  | 7 => ⟨S3x4194304, .i32⟩
  | 8 => ⟨S3x4194304, .i32⟩
  | 9 => ⟨S3x4194304, .i32⟩
  | 10 => ⟨S3x4194304, .i32⟩
  | 11 => ⟨S_, .i32⟩
  | 12 => ⟨S3x4194304, .i32⟩
  | 13 => ⟨S3x4194304, .i32⟩
  | 14 => ⟨S_, .i32⟩
  | 15 => ⟨S3x4194304, .i32⟩
  | 16 => ⟨S3x4194304, .i32⟩
  | 17 => ⟨S3x4194304, .i32⟩
  | 18 => ⟨S3x4194304, .i32⟩
  | 19 => ⟨S3x4194304, .i32⟩
  | 20 => ⟨S3x4194304, .i32⟩
  | 21 => ⟨S3x4194304, .i32⟩
  | 22 => ⟨S3x4194304, .i32⟩
  | 23 => ⟨S_, .i32⟩
  | 24 => ⟨S3x4194304, .i32⟩
  | 25 => ⟨S3x4194304, .i32⟩
  | 26 => ⟨S3x4194304, .i32⟩
  | 27 => ⟨S_, .i32⟩
  | 28 => ⟨S3x4194304, .i32⟩
  | 29 => ⟨S3x4194304, .i32⟩
  | 30 => ⟨S_, .i32⟩
  | 31 => ⟨S3x4194304, .i32⟩
  | 32 => ⟨S3x4194304, .i32⟩
  | 33 => ⟨S3x4194304, .i32⟩
  | 34 => ⟨S3x4194304, .i32⟩
  | 35 => ⟨S3x4194304, .i32⟩
  | 36 => ⟨S_, .i32⟩
  | 37 => ⟨S3x4194304, .i32⟩
  | 38 => ⟨S3x4194304, .i32⟩
  | 39 => ⟨S_, .i32⟩
  | 40 => ⟨S3x4194304, .i32⟩
  | 41 => ⟨S3x4194304, .i32⟩
  | 42 => ⟨S3x4194304, .i32⟩
  | 43 => ⟨S3x4194304, .i32⟩
  | 44 => ⟨S3x4194304, .i32⟩
  | 45 => ⟨S_, .i32⟩
  | 46 => ⟨S3x4194304, .i32⟩
  | 47 => ⟨S3x4194304, .i32⟩
  | 48 => ⟨S_, .i32⟩
  | 49 => ⟨S3x4194304, .i32⟩
  | 50 => ⟨S3x4194304, .i32⟩
  | 51 => ⟨S3x4194304, .i32⟩
  | 52 => ⟨S3x4194304, .i32⟩
  | 53 => ⟨S3x4194304, .i32⟩
  | 54 => ⟨S_, .i32⟩
  | 55 => ⟨S3x4194304, .i32⟩
  | 56 => ⟨S3x4194304, .i32⟩
  | 57 => ⟨S_, .i32⟩
  | 58 => ⟨S3x4194304, .i32⟩
  | 59 => ⟨S3x4194304, .i32⟩
  | 60 => ⟨S3x4194304, .i32⟩
  | 61 => ⟨S3x4194304, .i32⟩
  | 62 => ⟨S3x4194304, .i32⟩
  | 63 => ⟨S3x4194304, .i32⟩
  | 64 => ⟨S3x4194304, .i32⟩
  | 65 => ⟨S3x4194304, .i32⟩
  | 66 => ⟨S_, .i32⟩
  | 67 => ⟨S3x4194304, .i32⟩
  | 68 => ⟨S3x4194304, .i32⟩
  | 69 => ⟨S3x4194304, .i32⟩
  | 70 => ⟨S_, .i32⟩
  | 71 => ⟨S3x4194304, .i32⟩
  | 72 => ⟨S3x4194304, .i32⟩
  | 73 => ⟨S_, .i32⟩
  | 74 => ⟨S3x4194304, .i32⟩
  | 75 => ⟨S3x4194304, .i32⟩
  | 76 => ⟨S3x4194304, .i32⟩
  | 77 => ⟨S3x4194304, .i32⟩
  | 78 => ⟨S3x4194304, .i32⟩
  | 79 => ⟨S_, .i32⟩
  | 80 => ⟨S3x4194304, .i32⟩
  | 81 => ⟨S3x4194304, .i32⟩
  | 82 => ⟨S_, .i32⟩
  | 83 => ⟨S3x4194304, .i32⟩
  | 84 => ⟨S3x4194304, .i32⟩
  | 85 => ⟨S3x4194304, .i32⟩
  | 86 => ⟨S3x4194304, .i32⟩
  | 87 => ⟨S3x4194304, .i32⟩
  | 88 => ⟨S_, .i32⟩
  | 89 => ⟨S3x4194304, .i32⟩
  | 90 => ⟨S3x4194304, .i32⟩
  | 91 => ⟨S_, .i32⟩
  | 92 => ⟨S3x4194304, .i32⟩
  | 93 => ⟨S3x4194304, .i32⟩
  | 94 => ⟨S3x4194304, .i32⟩
  | 95 => ⟨S3x4194304, .i32⟩
  | 96 => ⟨S3x4194304, .i32⟩
  | 97 => ⟨S_, .i32⟩
  | 98 => ⟨S3x4194304, .i32⟩
  | 99 => ⟨S3x4194304, .i32⟩
  | 100 => ⟨S_, .i32⟩
  | 101 => ⟨S3x4194304, .i32⟩
  | 102 => ⟨S3x4194304, .i32⟩
  | 103 => ⟨S3x4194304, .i32⟩
  | 104 => ⟨S3x4194304, .i32⟩
  | 105 => ⟨S3x4194304, .i32⟩
  | 106 => ⟨S3x4194304, .i32⟩
  | 107 => ⟨S3x4194304, .i32⟩
  | 108 => ⟨S3x4194304, .i32⟩
  | 109 => ⟨S_, .i32⟩
  | 110 => ⟨S3x4194304, .i32⟩
  | 111 => ⟨S3x4194304, .i32⟩
  | 112 => ⟨S3x4194304, .i32⟩
  | 113 => ⟨S_, .i32⟩
  | 114 => ⟨S3x4194304, .i32⟩
  | 115 => ⟨S3x4194304, .i32⟩
  | 116 => ⟨S_, .i32⟩
  | 117 => ⟨S3x4194304, .i32⟩
  | 118 => ⟨S3x4194304, .i32⟩
  | 119 => ⟨S3x4194304, .f32⟩
  | 120 => ⟨S_, .f32⟩
  | 121 => ⟨S3x4194304, .f32⟩
  | 122 => ⟨S3x4194304, .f32⟩
  | 123 => ⟨S_, .f32⟩
  | 124 => ⟨S3x4194304, .f32⟩
  | 125 => ⟨S3x4194304, .f32⟩
  | 126 => ⟨S1x4194304, .f32⟩
  | 127 => ⟨S4194304, .f32⟩
  | _ => ⟨S4194304, .f32⟩

abbrev hbmTy0_2 (i : Nat) : BufTy := match i % 128 with
  | 0 => ⟨S_, .f32⟩
  | 1 => ⟨S4194304, .f32⟩
  | 2 => ⟨S4194304, .f32⟩
  | 3 => ⟨S_, .f32⟩
  | 4 => ⟨S4194304, .f32⟩
  | 5 => ⟨S4194304, .f32⟩
  | 6 => ⟨S1x4194304, .f32⟩
  | 7 => ⟨S4194304, .f32⟩
  | 8 => ⟨S_, .f32⟩
  | 9 => ⟨S4194304, .f32⟩
  | 10 => ⟨S4194304, .i1⟩
  | 11 => ⟨S4194304, .f32⟩
  | 12 => ⟨S4194304, .f32⟩
  | 13 => ⟨S_, .f32⟩
  | 14 => ⟨S4194304, .f32⟩
  | 15 => ⟨S4194304, .f32⟩
  | 16 => ⟨S4194304, .f32⟩
  | 17 => ⟨S4194304, .f32⟩
  | 18 => ⟨S_, .f32⟩
  | 19 => ⟨S4194304, .f32⟩
  | 20 => ⟨S4194304, .f32⟩
  | 21 => ⟨S4194304, .f32⟩
  | 22 => ⟨S1x4194304, .f32⟩
  | 23 => ⟨S4194304, .f32⟩
  | 24 => ⟨S_, .f32⟩
  | 25 => ⟨S4194304, .f32⟩
  | 26 => ⟨S4194304, .f32⟩
  | 27 => ⟨S_, .f32⟩
  | 28 => ⟨S4194304, .f32⟩
  | 29 => ⟨S4194304, .f32⟩
  | 30 => ⟨S_, .f32⟩
  | 31 => ⟨S4194304, .f32⟩
  | 32 => ⟨S4194304, .i1⟩
  | 33 => ⟨S_, .f32⟩
  | 34 => ⟨S4194304, .f32⟩
  | 35 => ⟨S4194304, .f32⟩
  | 36 => ⟨S4194304, .f32⟩
  | 37 => ⟨S4194304, .f32⟩
  | 38 => ⟨S4194304, .f32⟩
  | 39 => ⟨S_, .f32⟩
  | 40 => ⟨S4194304, .f32⟩
  | 41 => ⟨S4194304, .i1⟩
  | 42 => ⟨S_, .f32⟩
  | 43 => ⟨S4194304, .f32⟩
  | 44 => ⟨S4194304, .f32⟩
  | 45 => ⟨S4194304, .f32⟩
  | 46 => ⟨S4194304, .f32⟩
  | 47 => ⟨S4194304, .f32⟩
  | 48 => ⟨S_, .f32⟩
  | 49 => ⟨S4194304, .f32⟩
  | 50 => ⟨S4194304, .i1⟩
  | 51 => ⟨S_, .f32⟩
  | 52 => ⟨S4194304, .f32⟩
  | 53 => ⟨S4194304, .f32⟩
  | 54 => ⟨S4194304, .f32⟩
  | 55 => ⟨S4194304, .f32⟩
  | 56 => ⟨S4194304, .f32⟩
  | 57 => ⟨S_, .f32⟩
  | 58 => ⟨S4194304, .f32⟩
  | 59 => ⟨S4194304, .i1⟩
  | 60 => ⟨S_, .f32⟩
  | 61 => ⟨S4194304, .f32⟩
  | 62 => ⟨S4194304, .f32⟩
  | 63 => ⟨S4194304, .f32⟩
  | 64 => ⟨S4194304, .f32⟩
  | 65 => ⟨S4194304, .f32⟩
  | 66 => ⟨S_, .f32⟩
  | 67 => ⟨S4194304, .f32⟩
  | 68 => ⟨S4194304, .i1⟩
  | 69 => ⟨S4194304, .f32⟩
  | 70 => ⟨S_, .f32⟩
  | 71 => ⟨S4194304, .f32⟩
  | 72 => ⟨S4194304, .i1⟩
  | 73 => ⟨S4194304, .f32⟩
  | 74 => ⟨S4194304, .f32⟩
  | 75 => ⟨S_, .f32⟩
  | 76 => ⟨S4194304, .f32⟩
  | 77 => ⟨S4194304, .i1⟩
  | 78 => ⟨S4194304, .f32⟩
  | 79 => ⟨S4194304, .f32⟩
  | 80 => ⟨S_, .f32⟩
  | 81 => ⟨S4194304, .f32⟩
  | 82 => ⟨S4194304, .i1⟩
  | 83 => ⟨S4194304, .f32⟩
  | 84 => ⟨S4194304, .f32⟩
  | 85 => ⟨S4194304, .f32⟩
  | 86 => ⟨S_, .f32⟩
  | 87 => ⟨S4194304, .f32⟩
  | 88 => ⟨S4194304, .f32⟩
  | 89 => ⟨S4194304, .f32⟩
  | 90 => ⟨S4194304, .f32⟩
  | 91 => ⟨S4194304, .f32⟩
  | _ => ⟨S4194304, .f32⟩

abbrev hbmTy (i : Nat) : BufTy := match i / 128 with
  | 0 => hbmTy0_0 i
  | 1 => hbmTy0_1 i
  | 2 => hbmTy0_2 i
  | _ => ⟨S4194304, .f32⟩

abbrev bufTy : (tb : Table) → Fin (tcTables nBuf tb) → BufTy
  | .hbm, ⟨i, _⟩ => hbmTy i
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_v3 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_c_0 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_c_1 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_c_2 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_c_3 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_c_4 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_v11_0 : Ref sig .tc := ⟨.hbm, 52, rfl⟩
abbrev main_call0_call0_c_5 : Ref sig .tc := ⟨.hbm, 53, rfl⟩
abbrev main_call0_call0_v22 : Ref sig .tc := ⟨.hbm, 54, rfl⟩
abbrev main_call0_call0_v23 : Ref sig .tc := ⟨.hbm, 55, rfl⟩
abbrev main_call0_call0_c_6 : Ref sig .tc := ⟨.hbm, 56, rfl⟩
abbrev main_call0_call0_v24 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_v11_1 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_v15 : Ref sig .tc := ⟨.hbm, 64, rfl⟩
abbrev main_call0_c_0 : Ref sig .tc := ⟨.hbm, 65, rfl⟩
abbrev main_call0_v16 : Ref sig .tc := ⟨.hbm, 66, rfl⟩
abbrev main_call0_v17 : Ref sig .tc := ⟨.hbm, 67, rfl⟩
abbrev main_call0_call1_v0 : Ref sig .tc := ⟨.hbm, 68, rfl⟩
abbrev main_call0_call1_c : Ref sig .tc := ⟨.hbm, 69, rfl⟩
abbrev main_call0_call1_v1 : Ref sig .tc := ⟨.hbm, 70, rfl⟩
abbrev main_call0_call1_v2 : Ref sig .tc := ⟨.hbm, 71, rfl⟩
abbrev main_call0_call1_c_0 : Ref sig .tc := ⟨.hbm, 72, rfl⟩
abbrev main_call0_call1_v3 : Ref sig .tc := ⟨.hbm, 73, rfl⟩
abbrev main_call0_call1_v4 : Ref sig .tc := ⟨.hbm, 74, rfl⟩
abbrev main_call0_call1_v5 : Ref sig .tc := ⟨.hbm, 75, rfl⟩
abbrev main_call0_call1_v6 : Ref sig .tc := ⟨.hbm, 76, rfl⟩
abbrev main_call0_call1_v7 : Ref sig .tc := ⟨.hbm, 77, rfl⟩
abbrev main_call0_call1_c_1 : Ref sig .tc := ⟨.hbm, 78, rfl⟩
abbrev main_call0_call1_v8 : Ref sig .tc := ⟨.hbm, 79, rfl⟩
abbrev main_call0_call1_v9 : Ref sig .tc := ⟨.hbm, 80, rfl⟩
abbrev main_call0_call1_c_2 : Ref sig .tc := ⟨.hbm, 81, rfl⟩
abbrev main_call0_call1_v10 : Ref sig .tc := ⟨.hbm, 82, rfl⟩
abbrev main_call0_call1_v11 : Ref sig .tc := ⟨.hbm, 83, rfl⟩
abbrev main_call0_call1_v12 : Ref sig .tc := ⟨.hbm, 84, rfl⟩
abbrev main_call0_call1_v13 : Ref sig .tc := ⟨.hbm, 85, rfl⟩
abbrev main_call0_call1_v14 : Ref sig .tc := ⟨.hbm, 86, rfl⟩
abbrev main_call0_call1_c_3 : Ref sig .tc := ⟨.hbm, 87, rfl⟩
abbrev main_call0_call1_v15 : Ref sig .tc := ⟨.hbm, 88, rfl⟩
abbrev main_call0_call1_v16 : Ref sig .tc := ⟨.hbm, 89, rfl⟩
abbrev main_call0_call1_c_4 : Ref sig .tc := ⟨.hbm, 90, rfl⟩
abbrev main_call0_call1_v17 : Ref sig .tc := ⟨.hbm, 91, rfl⟩
abbrev main_call0_call1_v18 : Ref sig .tc := ⟨.hbm, 92, rfl⟩
abbrev main_call0_call1_v19 : Ref sig .tc := ⟨.hbm, 93, rfl⟩
abbrev main_call0_call1_v20 : Ref sig .tc := ⟨.hbm, 94, rfl⟩
abbrev main_call0_v18_0 : Ref sig .tc := ⟨.hbm, 95, rfl⟩
abbrev main_call0_call1_c_5 : Ref sig .tc := ⟨.hbm, 96, rfl⟩
abbrev main_call0_call1_v22 : Ref sig .tc := ⟨.hbm, 97, rfl⟩
abbrev main_call0_call1_v23 : Ref sig .tc := ⟨.hbm, 98, rfl⟩
abbrev main_call0_call1_c_6 : Ref sig .tc := ⟨.hbm, 99, rfl⟩
abbrev main_call0_call1_v24 : Ref sig .tc := ⟨.hbm, 100, rfl⟩
abbrev main_call0_call1_v25 : Ref sig .tc := ⟨.hbm, 101, rfl⟩
abbrev main_call0_call1_v26 : Ref sig .tc := ⟨.hbm, 102, rfl⟩
abbrev main_call0_v18_1 : Ref sig .tc := ⟨.hbm, 103, rfl⟩
abbrev main_call0_v19 : Ref sig .tc := ⟨.hbm, 104, rfl⟩
abbrev main_call0_v20 : Ref sig .tc := ⟨.hbm, 105, rfl⟩
abbrev main_call0_v21 : Ref sig .tc := ⟨.hbm, 106, rfl⟩
abbrev main_call0_v22 : Ref sig .tc := ⟨.hbm, 107, rfl⟩
abbrev main_call0_c_1 : Ref sig .tc := ⟨.hbm, 108, rfl⟩
abbrev main_call0_v23 : Ref sig .tc := ⟨.hbm, 109, rfl⟩
abbrev main_call0_v24 : Ref sig .tc := ⟨.hbm, 110, rfl⟩
abbrev main_call0_call2_v0 : Ref sig .tc := ⟨.hbm, 111, rfl⟩
abbrev main_call0_call2_c : Ref sig .tc := ⟨.hbm, 112, rfl⟩
abbrev main_call0_call2_v1 : Ref sig .tc := ⟨.hbm, 113, rfl⟩
abbrev main_call0_call2_v2 : Ref sig .tc := ⟨.hbm, 114, rfl⟩
abbrev main_call0_call2_c_0 : Ref sig .tc := ⟨.hbm, 115, rfl⟩
abbrev main_call0_call2_v3 : Ref sig .tc := ⟨.hbm, 116, rfl⟩
abbrev main_call0_call2_v4 : Ref sig .tc := ⟨.hbm, 117, rfl⟩
abbrev main_call0_call2_v5 : Ref sig .tc := ⟨.hbm, 118, rfl⟩
abbrev main_call0_call2_v6 : Ref sig .tc := ⟨.hbm, 119, rfl⟩
abbrev main_call0_call2_v7 : Ref sig .tc := ⟨.hbm, 120, rfl⟩
abbrev main_call0_call2_c_1 : Ref sig .tc := ⟨.hbm, 121, rfl⟩
abbrev main_call0_call2_v8 : Ref sig .tc := ⟨.hbm, 122, rfl⟩
abbrev main_call0_call2_v9 : Ref sig .tc := ⟨.hbm, 123, rfl⟩
abbrev main_call0_call2_c_2 : Ref sig .tc := ⟨.hbm, 124, rfl⟩
abbrev main_call0_call2_v10 : Ref sig .tc := ⟨.hbm, 125, rfl⟩
abbrev main_call0_call2_v11 : Ref sig .tc := ⟨.hbm, 126, rfl⟩
abbrev main_call0_call2_v12 : Ref sig .tc := ⟨.hbm, 127, rfl⟩
abbrev main_call0_call2_v13 : Ref sig .tc := ⟨.hbm, 128, rfl⟩
abbrev main_call0_call2_v14 : Ref sig .tc := ⟨.hbm, 129, rfl⟩
abbrev main_call0_call2_c_3 : Ref sig .tc := ⟨.hbm, 130, rfl⟩
abbrev main_call0_call2_v15 : Ref sig .tc := ⟨.hbm, 131, rfl⟩
abbrev main_call0_call2_v16 : Ref sig .tc := ⟨.hbm, 132, rfl⟩
abbrev main_call0_call2_c_4 : Ref sig .tc := ⟨.hbm, 133, rfl⟩
abbrev main_call0_call2_v17 : Ref sig .tc := ⟨.hbm, 134, rfl⟩
abbrev main_call0_call2_v18 : Ref sig .tc := ⟨.hbm, 135, rfl⟩
abbrev main_call0_call2_v19 : Ref sig .tc := ⟨.hbm, 136, rfl⟩
abbrev main_call0_call2_v20 : Ref sig .tc := ⟨.hbm, 137, rfl⟩
abbrev main_call0_v25_0 : Ref sig .tc := ⟨.hbm, 138, rfl⟩
abbrev main_call0_call2_c_5 : Ref sig .tc := ⟨.hbm, 139, rfl⟩
abbrev main_call0_call2_v22 : Ref sig .tc := ⟨.hbm, 140, rfl⟩
abbrev main_call0_call2_v23 : Ref sig .tc := ⟨.hbm, 141, rfl⟩
abbrev main_call0_call2_c_6 : Ref sig .tc := ⟨.hbm, 142, rfl⟩
abbrev main_call0_call2_v24 : Ref sig .tc := ⟨.hbm, 143, rfl⟩
abbrev main_call0_call2_v25 : Ref sig .tc := ⟨.hbm, 144, rfl⟩
abbrev main_call0_call2_v26 : Ref sig .tc := ⟨.hbm, 145, rfl⟩
abbrev main_call0_v25_1 : Ref sig .tc := ⟨.hbm, 146, rfl⟩
abbrev main_call0_v26 : Ref sig .tc := ⟨.hbm, 147, rfl⟩
abbrev main_call0_v27 : Ref sig .tc := ⟨.hbm, 148, rfl⟩
abbrev main_call0_v28 : Ref sig .tc := ⟨.hbm, 149, rfl⟩
abbrev main_call0_v29 : Ref sig .tc := ⟨.hbm, 150, rfl⟩
abbrev main_call0_c_2 : Ref sig .tc := ⟨.hbm, 151, rfl⟩
abbrev main_call0_v30 : Ref sig .tc := ⟨.hbm, 152, rfl⟩
abbrev main_call0_v31 : Ref sig .tc := ⟨.hbm, 153, rfl⟩
abbrev main_call0_call3_v0 : Ref sig .tc := ⟨.hbm, 154, rfl⟩
abbrev main_call0_call3_c : Ref sig .tc := ⟨.hbm, 155, rfl⟩
abbrev main_call0_call3_v1 : Ref sig .tc := ⟨.hbm, 156, rfl⟩
abbrev main_call0_call3_v2 : Ref sig .tc := ⟨.hbm, 157, rfl⟩
abbrev main_call0_call3_c_0 : Ref sig .tc := ⟨.hbm, 158, rfl⟩
abbrev main_call0_call3_v3 : Ref sig .tc := ⟨.hbm, 159, rfl⟩
abbrev main_call0_call3_v4 : Ref sig .tc := ⟨.hbm, 160, rfl⟩
abbrev main_call0_call3_v5 : Ref sig .tc := ⟨.hbm, 161, rfl⟩
abbrev main_call0_call3_v6 : Ref sig .tc := ⟨.hbm, 162, rfl⟩
abbrev main_call0_call3_v7 : Ref sig .tc := ⟨.hbm, 163, rfl⟩
abbrev main_call0_call3_c_1 : Ref sig .tc := ⟨.hbm, 164, rfl⟩
abbrev main_call0_call3_v8 : Ref sig .tc := ⟨.hbm, 165, rfl⟩
abbrev main_call0_call3_v9 : Ref sig .tc := ⟨.hbm, 166, rfl⟩
abbrev main_call0_call3_c_2 : Ref sig .tc := ⟨.hbm, 167, rfl⟩
abbrev main_call0_call3_v10 : Ref sig .tc := ⟨.hbm, 168, rfl⟩
abbrev main_call0_call3_v11 : Ref sig .tc := ⟨.hbm, 169, rfl⟩
abbrev main_call0_call3_v12 : Ref sig .tc := ⟨.hbm, 170, rfl⟩
abbrev main_call0_call3_v13 : Ref sig .tc := ⟨.hbm, 171, rfl⟩
abbrev main_call0_call3_v14 : Ref sig .tc := ⟨.hbm, 172, rfl⟩
abbrev main_call0_call3_c_3 : Ref sig .tc := ⟨.hbm, 173, rfl⟩
abbrev main_call0_call3_v15 : Ref sig .tc := ⟨.hbm, 174, rfl⟩
abbrev main_call0_call3_v16 : Ref sig .tc := ⟨.hbm, 175, rfl⟩
abbrev main_call0_call3_c_4 : Ref sig .tc := ⟨.hbm, 176, rfl⟩
abbrev main_call0_call3_v17 : Ref sig .tc := ⟨.hbm, 177, rfl⟩
abbrev main_call0_call3_v18 : Ref sig .tc := ⟨.hbm, 178, rfl⟩
abbrev main_call0_call3_v19 : Ref sig .tc := ⟨.hbm, 179, rfl⟩
abbrev main_call0_call3_v20 : Ref sig .tc := ⟨.hbm, 180, rfl⟩
abbrev main_call0_v32_0 : Ref sig .tc := ⟨.hbm, 181, rfl⟩
abbrev main_call0_call3_c_5 : Ref sig .tc := ⟨.hbm, 182, rfl⟩
abbrev main_call0_call3_v22 : Ref sig .tc := ⟨.hbm, 183, rfl⟩
abbrev main_call0_call3_v23 : Ref sig .tc := ⟨.hbm, 184, rfl⟩
abbrev main_call0_call3_c_6 : Ref sig .tc := ⟨.hbm, 185, rfl⟩
abbrev main_call0_call3_v24 : Ref sig .tc := ⟨.hbm, 186, rfl⟩
abbrev main_call0_call3_v25 : Ref sig .tc := ⟨.hbm, 187, rfl⟩
abbrev main_call0_call3_v26 : Ref sig .tc := ⟨.hbm, 188, rfl⟩
abbrev main_call0_v32_1 : Ref sig .tc := ⟨.hbm, 189, rfl⟩
abbrev main_call0_v33 : Ref sig .tc := ⟨.hbm, 190, rfl⟩
abbrev main_call0_v34 : Ref sig .tc := ⟨.hbm, 191, rfl⟩
abbrev main_call0_v35 : Ref sig .tc := ⟨.hbm, 192, rfl⟩
abbrev main_call0_v36 : Ref sig .tc := ⟨.hbm, 193, rfl⟩
abbrev main_call0_c_3 : Ref sig .tc := ⟨.hbm, 194, rfl⟩
abbrev main_call0_v37 : Ref sig .tc := ⟨.hbm, 195, rfl⟩
abbrev main_call0_v38 : Ref sig .tc := ⟨.hbm, 196, rfl⟩
abbrev main_call0_call4_v0 : Ref sig .tc := ⟨.hbm, 197, rfl⟩
abbrev main_call0_call4_c : Ref sig .tc := ⟨.hbm, 198, rfl⟩
abbrev main_call0_call4_v1 : Ref sig .tc := ⟨.hbm, 199, rfl⟩
abbrev main_call0_call4_v2 : Ref sig .tc := ⟨.hbm, 200, rfl⟩
abbrev main_call0_call4_c_0 : Ref sig .tc := ⟨.hbm, 201, rfl⟩
abbrev main_call0_call4_v3 : Ref sig .tc := ⟨.hbm, 202, rfl⟩
abbrev main_call0_call4_v4 : Ref sig .tc := ⟨.hbm, 203, rfl⟩
abbrev main_call0_call4_v5 : Ref sig .tc := ⟨.hbm, 204, rfl⟩
abbrev main_call0_call4_v6 : Ref sig .tc := ⟨.hbm, 205, rfl⟩
abbrev main_call0_call4_v7 : Ref sig .tc := ⟨.hbm, 206, rfl⟩
abbrev main_call0_call4_c_1 : Ref sig .tc := ⟨.hbm, 207, rfl⟩
abbrev main_call0_call4_v8 : Ref sig .tc := ⟨.hbm, 208, rfl⟩
abbrev main_call0_call4_v9 : Ref sig .tc := ⟨.hbm, 209, rfl⟩
abbrev main_call0_call4_c_2 : Ref sig .tc := ⟨.hbm, 210, rfl⟩
abbrev main_call0_call4_v10 : Ref sig .tc := ⟨.hbm, 211, rfl⟩
abbrev main_call0_call4_v11 : Ref sig .tc := ⟨.hbm, 212, rfl⟩
abbrev main_call0_call4_v12 : Ref sig .tc := ⟨.hbm, 213, rfl⟩
abbrev main_call0_call4_v13 : Ref sig .tc := ⟨.hbm, 214, rfl⟩
abbrev main_call0_call4_v14 : Ref sig .tc := ⟨.hbm, 215, rfl⟩
abbrev main_call0_call4_c_3 : Ref sig .tc := ⟨.hbm, 216, rfl⟩
abbrev main_call0_call4_v15 : Ref sig .tc := ⟨.hbm, 217, rfl⟩
abbrev main_call0_call4_v16 : Ref sig .tc := ⟨.hbm, 218, rfl⟩
abbrev main_call0_call4_c_4 : Ref sig .tc := ⟨.hbm, 219, rfl⟩
abbrev main_call0_call4_v17 : Ref sig .tc := ⟨.hbm, 220, rfl⟩
abbrev main_call0_call4_v18 : Ref sig .tc := ⟨.hbm, 221, rfl⟩
abbrev main_call0_call4_v19 : Ref sig .tc := ⟨.hbm, 222, rfl⟩
abbrev main_call0_call4_v20 : Ref sig .tc := ⟨.hbm, 223, rfl⟩
abbrev main_call0_v39_0 : Ref sig .tc := ⟨.hbm, 224, rfl⟩
abbrev main_call0_call4_c_5 : Ref sig .tc := ⟨.hbm, 225, rfl⟩
abbrev main_call0_call4_v22 : Ref sig .tc := ⟨.hbm, 226, rfl⟩
abbrev main_call0_call4_v23 : Ref sig .tc := ⟨.hbm, 227, rfl⟩
abbrev main_call0_call4_c_6 : Ref sig .tc := ⟨.hbm, 228, rfl⟩
abbrev main_call0_call4_v24 : Ref sig .tc := ⟨.hbm, 229, rfl⟩
abbrev main_call0_call4_v25 : Ref sig .tc := ⟨.hbm, 230, rfl⟩
abbrev main_call0_call4_v26 : Ref sig .tc := ⟨.hbm, 231, rfl⟩
abbrev main_call0_v39_1 : Ref sig .tc := ⟨.hbm, 232, rfl⟩
abbrev main_call0_v40 : Ref sig .tc := ⟨.hbm, 233, rfl⟩
abbrev main_v4_0 : Ref sig .tc := ⟨.hbm, 234, rfl⟩
abbrev main_call0_v42 : Ref sig .tc := ⟨.hbm, 235, rfl⟩
abbrev main_call0_v43 : Ref sig .tc := ⟨.hbm, 236, rfl⟩
abbrev main_call0_c_4 : Ref sig .tc := ⟨.hbm, 237, rfl⟩
abbrev main_call0_v44 : Ref sig .tc := ⟨.hbm, 238, rfl⟩
abbrev main_v4_1 : Ref sig .tc := ⟨.hbm, 239, rfl⟩
abbrev main_v5 : Ref sig .tc := ⟨.hbm, 240, rfl⟩
abbrev main_c_3 : Ref sig .tc := ⟨.hbm, 241, rfl⟩
abbrev main_v6 : Ref sig .tc := ⟨.hbm, 242, rfl⟩
abbrev main_v7 : Ref sig .tc := ⟨.hbm, 243, rfl⟩
abbrev main_c_4 : Ref sig .tc := ⟨.hbm, 244, rfl⟩
abbrev main_v8 : Ref sig .tc := ⟨.hbm, 245, rfl⟩
abbrev main_v9 : Ref sig .tc := ⟨.hbm, 246, rfl⟩
abbrev main_v10 : Ref sig .tc := ⟨.hbm, 247, rfl⟩
abbrev main_cst_5 : Ref sig .tc := ⟨.hbm, 248, rfl⟩
abbrev main_v11 : Ref sig .tc := ⟨.hbm, 249, rfl⟩
abbrev main_v12 : Ref sig .tc := ⟨.hbm, 250, rfl⟩
abbrev main_cst_6 : Ref sig .tc := ⟨.hbm, 251, rfl⟩
abbrev main_v13 : Ref sig .tc := ⟨.hbm, 252, rfl⟩
abbrev main_v14 : Ref sig .tc := ⟨.hbm, 253, rfl⟩
abbrev main_v15 : Ref sig .tc := ⟨.hbm, 254, rfl⟩
abbrev main_v16 : Ref sig .tc := ⟨.hbm, 255, rfl⟩
abbrev main_cst_7 : Ref sig .tc := ⟨.hbm, 256, rfl⟩
abbrev main_v17 : Ref sig .tc := ⟨.hbm, 257, rfl⟩
abbrev main_v18 : Ref sig .tc := ⟨.hbm, 258, rfl⟩
abbrev main_cst_8 : Ref sig .tc := ⟨.hbm, 259, rfl⟩
abbrev main_v19 : Ref sig .tc := ⟨.hbm, 260, rfl⟩
abbrev main_v20 : Ref sig .tc := ⟨.hbm, 261, rfl⟩
abbrev main_v21 : Ref sig .tc := ⟨.hbm, 262, rfl⟩
abbrev main_v22 : Ref sig .tc := ⟨.hbm, 263, rfl⟩
abbrev main_cst_9 : Ref sig .tc := ⟨.hbm, 264, rfl⟩
abbrev main_v23 : Ref sig .tc := ⟨.hbm, 265, rfl⟩
abbrev main_v24 : Ref sig .tc := ⟨.hbm, 266, rfl⟩
abbrev main_v25 : Ref sig .tc := ⟨.hbm, 267, rfl⟩
abbrev main_v26 : Ref sig .tc := ⟨.hbm, 268, rfl⟩
abbrev main_cst_10 : Ref sig .tc := ⟨.hbm, 269, rfl⟩
abbrev main_v27 : Ref sig .tc := ⟨.hbm, 270, rfl⟩
abbrev main_v28 : Ref sig .tc := ⟨.hbm, 271, rfl⟩
abbrev main_v29 : Ref sig .tc := ⟨.hbm, 272, rfl⟩
abbrev main_v30 : Ref sig .tc := ⟨.hbm, 273, rfl⟩
abbrev main_cst_11 : Ref sig .tc := ⟨.hbm, 274, rfl⟩
abbrev main_v31 : Ref sig .tc := ⟨.hbm, 275, rfl⟩
abbrev main_v32 : Ref sig .tc := ⟨.hbm, 276, rfl⟩
abbrev main_v33 : Ref sig .tc := ⟨.hbm, 277, rfl⟩
abbrev main_v34 : Ref sig .tc := ⟨.hbm, 278, rfl⟩
abbrev main_v35 : Ref sig .tc := ⟨.hbm, 279, rfl⟩
abbrev main_cst_12 : Ref sig .tc := ⟨.hbm, 280, rfl⟩
abbrev main_v36 : Ref sig .tc := ⟨.hbm, 281, rfl⟩
abbrev main_v37 : Ref sig .tc := ⟨.hbm, 282, rfl⟩
abbrev main_cst_13 : Ref sig .tc := ⟨.hbm, 283, rfl⟩
abbrev main_v38 : Ref sig .tc := ⟨.hbm, 284, rfl⟩
abbrev main_v39 : Ref sig .tc := ⟨.hbm, 285, rfl⟩
abbrev main_cst_14 : Ref sig .tc := ⟨.hbm, 286, rfl⟩
abbrev main_v40 : Ref sig .tc := ⟨.hbm, 287, rfl⟩
abbrev main_v41 : Ref sig .tc := ⟨.hbm, 288, rfl⟩
abbrev main_cst_15 : Ref sig .tc := ⟨.hbm, 289, rfl⟩
abbrev main_v42 : Ref sig .tc := ⟨.hbm, 290, rfl⟩
abbrev main_v43 : Ref sig .tc := ⟨.hbm, 291, rfl⟩
abbrev main_v44 : Ref sig .tc := ⟨.hbm, 292, rfl⟩
abbrev main_v45 : Ref sig .tc := ⟨.hbm, 293, rfl⟩
abbrev main_v46 : Ref sig .tc := ⟨.hbm, 294, rfl⟩
abbrev main_cst_16 : Ref sig .tc := ⟨.hbm, 295, rfl⟩
abbrev main_v47 : Ref sig .tc := ⟨.hbm, 296, rfl⟩
abbrev main_v48 : Ref sig .tc := ⟨.hbm, 297, rfl⟩
abbrev main_cst_17 : Ref sig .tc := ⟨.hbm, 298, rfl⟩
abbrev main_v49 : Ref sig .tc := ⟨.hbm, 299, rfl⟩
abbrev main_v50 : Ref sig .tc := ⟨.hbm, 300, rfl⟩
abbrev main_v51 : Ref sig .tc := ⟨.hbm, 301, rfl⟩
abbrev main_v52 : Ref sig .tc := ⟨.hbm, 302, rfl⟩
abbrev main_v53 : Ref sig .tc := ⟨.hbm, 303, rfl⟩
abbrev main_cst_18 : Ref sig .tc := ⟨.hbm, 304, rfl⟩
abbrev main_v54 : Ref sig .tc := ⟨.hbm, 305, rfl⟩
abbrev main_v55 : Ref sig .tc := ⟨.hbm, 306, rfl⟩
abbrev main_cst_19 : Ref sig .tc := ⟨.hbm, 307, rfl⟩
abbrev main_v56 : Ref sig .tc := ⟨.hbm, 308, rfl⟩
abbrev main_v57 : Ref sig .tc := ⟨.hbm, 309, rfl⟩
abbrev main_v58 : Ref sig .tc := ⟨.hbm, 310, rfl⟩
abbrev main_v59 : Ref sig .tc := ⟨.hbm, 311, rfl⟩
abbrev main_v60 : Ref sig .tc := ⟨.hbm, 312, rfl⟩
abbrev main_cst_20 : Ref sig .tc := ⟨.hbm, 313, rfl⟩
abbrev main_v61 : Ref sig .tc := ⟨.hbm, 314, rfl⟩
abbrev main_v62 : Ref sig .tc := ⟨.hbm, 315, rfl⟩
abbrev main_cst_21 : Ref sig .tc := ⟨.hbm, 316, rfl⟩
abbrev main_v63 : Ref sig .tc := ⟨.hbm, 317, rfl⟩
abbrev main_v64 : Ref sig .tc := ⟨.hbm, 318, rfl⟩
abbrev main_v65 : Ref sig .tc := ⟨.hbm, 319, rfl⟩
abbrev main_v66 : Ref sig .tc := ⟨.hbm, 320, rfl⟩
abbrev main_v67 : Ref sig .tc := ⟨.hbm, 321, rfl⟩
abbrev main_cst_22 : Ref sig .tc := ⟨.hbm, 322, rfl⟩
abbrev main_v68 : Ref sig .tc := ⟨.hbm, 323, rfl⟩
abbrev main_v69 : Ref sig .tc := ⟨.hbm, 324, rfl⟩
abbrev main_v70 : Ref sig .tc := ⟨.hbm, 325, rfl⟩
abbrev main_cst_23 : Ref sig .tc := ⟨.hbm, 326, rfl⟩
abbrev main_v71 : Ref sig .tc := ⟨.hbm, 327, rfl⟩
abbrev main_v72 : Ref sig .tc := ⟨.hbm, 328, rfl⟩
abbrev main_v73 : Ref sig .tc := ⟨.hbm, 329, rfl⟩
abbrev main_v74 : Ref sig .tc := ⟨.hbm, 330, rfl⟩
abbrev main_cst_24 : Ref sig .tc := ⟨.hbm, 331, rfl⟩
abbrev main_v75 : Ref sig .tc := ⟨.hbm, 332, rfl⟩
abbrev main_v76 : Ref sig .tc := ⟨.hbm, 333, rfl⟩
abbrev main_v77 : Ref sig .tc := ⟨.hbm, 334, rfl⟩
abbrev main_v78 : Ref sig .tc := ⟨.hbm, 335, rfl⟩
abbrev main_cst_25 : Ref sig .tc := ⟨.hbm, 336, rfl⟩
abbrev main_v79 : Ref sig .tc := ⟨.hbm, 337, rfl⟩
abbrev main_v80 : Ref sig .tc := ⟨.hbm, 338, rfl⟩
abbrev main_v81 : Ref sig .tc := ⟨.hbm, 339, rfl⟩
abbrev main_v82 : Ref sig .tc := ⟨.hbm, 340, rfl⟩
abbrev main_v83 : Ref sig .tc := ⟨.hbm, 341, rfl⟩
abbrev main_cst_26 : Ref sig .tc := ⟨.hbm, 342, rfl⟩
abbrev main_v84 : Ref sig .tc := ⟨.hbm, 343, rfl⟩
abbrev main_v85 : Ref sig .tc := ⟨.hbm, 344, rfl⟩
abbrev main_v86 : Ref sig .tc := ⟨.hbm, 345, rfl⟩
abbrev main_v87 : Ref sig .tc := ⟨.hbm, 346, rfl⟩
abbrev main_v88 : Ref sig .tc := ⟨.hbm, 347, rfl⟩

abbrev nD : Nat := 1
abbrev τ : Topo := Topo.v7x

variable {F : FTy → Type} [FloatOps F]
-- ==== Proof.Draws.lean ====
/-
  The random draws, which the kernel's host part, the reference and the two predicates compute alike: `draws`, the 3 × 4194304
  numbers in `[0, 1)`. Row `d` is hashed under the `d`-th key. The hash is Threefry-2x32: twenty rounds, four at a time, with a
  key added after each four. Here it is stated over whole arrays, in the operations the programs themselves use.
-/
module

public import Idealize.ShloMosaic.Lib.Pointwise
public import Idealize.ShloMosaic.PureOps.Ideal

@[expose] public section

noncomputable section

namespace Cert.Draws

open Idealize.ShloMosaic

/-- One row per key, one column per ant. -/
abbrev T : Shape := ⟨2, ![3, 4194304]⟩
/-- One word per key. -/
abbrev K : Shape := ⟨2, ![3, 1]⟩
/-- A row of `T`. -/
abbrev R : Shape := ⟨2, ![1, 4194304]⟩
/-- One entry per ant. -/
abbrev N : Shape := ⟨1, ![4194304]⟩

/-- An array of 32-bit words. -/
abbrev W := IVec T 32

/-- A word repeated. -/
def word (n : BitVec 32) : W := fun _ => n

/-- A word per key, repeated along its row. -/
def spread (k : IVec K 32) : W := broadcastInDim T ![0, 1] (by decide) k

/-- A word per ant, repeated for each key. -/
def column (x : IVec N 32) : W := broadcastInDim T ![0, 1] (by decide) (broadcastInDim R ![1] (by decide) x)

/-- One round: the first word is added to, the second rotated (by `r`, where `s = 32 - r`) and mixed with the sum. -/
def round (r s : BitVec 32) (p : W × W) : W × W :=
  (addi p.1 p.2, xori (ori (Host.shli p.2 (word r)) (Host.shrui p.2 (word s))) (addi p.1 p.2))

/-- The first, third and fifth four rounds. -/
def quadA (p : W × W) : W × W := round 6#32 26#32 (round 26#32 6#32 (round 15#32 17#32 (round 13#32 19#32 p)))
/-- The second and fourth four rounds. -/
def quadB (p : W × W) : W × W := round 24#32 8#32 (round 16#32 16#32 (round 29#32 3#32 (round 17#32 15#32 p)))

/-- After four rounds the keys `k`, `k'` and the number of the step are added. -/
def key (k k' : IVec K 32) (n : BitVec 32) (p : W × W) : W × W :=
  (addi p.1 (spread k), addi (addi p.2 (spread k')) (word n))

/-- The words that are hashed: zero and the ant's number, plus the keys. -/
def start (k0 k1 : IVec K 32) : W × W :=
  (addi (column fun _ => 0#32) (spread k0), addi (column (iotaInDim N 32 0)) (spread k1))

/-- The hash of `start` under the keys `k0`, `k1`, `k2`. -/
def hash (k0 k1 k2 : IVec K 32) : W × W :=
  key k2 k0 5#32 (quadA (key k1 k2 4#32 (quadB (key k0 k1 3#32 (quadA (key k2 k0 2#32 (quadB (key k1 k2 1#32 (quadA
    (start k0 k1))))))))))

/-- The word whose float lies in `[1, 2)`: 23 bits of the hash's two words' exclusive or. -/
def bits (p : W × W) : W := ori (Host.shrui (xori p.1 p.2) (word 9#32)) (word 1065353216#32)

/-- That float less one. -/
def fraction (p : W × W) : FVec Ideal T .f32 :=
  subf (bitcastToFloat (F := Ideal) .f32 (bits p)) (fun _ => FloatOps.ofBits .f32 0x3F800000#32)

/-- The first word of each key. -/
def words0 : Fin 3 → BitVec 32 := ![507451445#32, 1948878966#32, 2441914641#32]
/-- The second word of each key. -/
def words1 : Fin 3 → BitVec 32 := ![1853169794#32, 4237131848#32, 3819641963#32]
/-- The third word of each key: the exclusive or of the first two and Threefry's constant. -/
def words2 : Fin 3 → BitVec 32 := ![1805329261#32, 2473923556#32, 1777774240#32]

/-- Three words as a column. -/
def keys (l : Fin 3 → BitVec 32) : IVec K 32 := fun i => l (i 0)

/-- The draws. -/
def draws : FVec Ideal T .f32 := fraction (hash (keys words0) (keys words1) (keys words2))

/-- The place of ant `i` in row `d`. -/
def place (d : Fin 3) (i : N.Idx) : T.Idx := fun a => match a with
  | ⟨0, _⟩ => d
  | ⟨1, _⟩ => i 0

/-- Ant `i`'s draw in row `d`. -/
def draw (d : Fin 3) (i : N.Idx) : EReal := draws (place d i)

/-- Ant `i`'s angle drawn from row `d`: twice the draw times π as the program writes it. -/
def angle (d : Fin 3) (i : N.Idx) : EReal :=
  draw d i * (FloatOps.ofBits .f32 0x40000000#32 : Ideal .f32) * (FloatOps.ofBits .f32 0x40490FD8#32 : Ideal .f32)

/-- Whether ant `i` turns: its draw of row 1 is at most the probability. -/
def turns (i : N.Idx) : BitVec 1 := FloatOps.cmpf (F := Ideal) (φ := .f32) .ole (draw 1 i) (FloatOps.ofBits .f32 0x3C23D70A#32)

/-! ## Reading the programs' literals and slices -/

/-- A literal of one word per key, read at a place, is its list read at the place's row. -/
theorem literal_K (l : Fin 3 → BitVec 32) : (fun i => l (K.rowMajor i) : IVec K 32) = keys l := by
  funext i
  refine congrArg l (Fin.ext ?_)
  refine (Shape.rowMajor_val_two (d := ![3, 1]) i).trans ?_
  have h1 : (i 1).val = 0 := Nat.lt_one_iff.mp (i 1).isLt
  rw [h1]
  exact Nat.mul_one _

/-- A literal of one word per key, given as a list and reshaped to a column. -/
theorem literal_list (l : Fin 3 → BitVec 32) (h : (⟨1, ![3]⟩ : Shape).BroadcastsInDim K ![0]) :
    broadcastInDim K ![0] h (fun i => l ((⟨1, ![3]⟩ : Shape).rowMajor i)) = keys l :=
  funext fun _ => congrArg l (Fin.ext (Shape.rowMajor_val_one (d := ![3]) _))

/-- The third words are the exclusive or of the first two and the constant. -/
theorem words2_eq : (fun i => keys words0 i ^^^ keys words1 i ^^^ 466688986#32) = keys words2 := by
  funext i
  show words0 (i 0) ^^^ words1 (i 0) ^^^ 466688986#32 = words2 (i 0)
  have h : ∀ a : Fin 3, words0 a ^^^ words1 a ^^^ 466688986#32 = words2 a := by decide
  exact h (i 0)

/-- Row `d` of an array over `T`, cut out and reshaped, read at ant `i`. -/
theorem row_apply (A : FVec Ideal T .f32) (d : Fin 3) (hs : T.Slices ![d.val, 0] R) (hc : R.ShapeCasts N) (i : N.Idx) :
    shapeCast N (extractStridedSlice R ![d.val, 0] A hs) hc i = A (place d i) := by
  let y : R.Idx := fun a => match a with | ⟨0, _⟩ => (0 : Fin 1) | ⟨1, _⟩ => i 0
  have hy : Shape.reshapeEquiv hc i = y := by
    apply Shape.reshapeEquiv_eq_of_rowMajor
    refine (Shape.rowMajor_val_two (d := ![1, 4194304]) y).trans (Eq.trans ?_ (Shape.rowMajor_val_one (d := ![4194304]) i).symm)
    show 0 * 4194304 + (i 0).val = (i 0).val
    rw [Nat.zero_mul, Nat.zero_add]
  show A (fun a => ⟨_, _⟩) = _
  refine congrArg A (funext fun a => Fin.ext ?_)
  show ![d.val, 0] a + (Shape.reshapeEquiv hc i (a.cast _)).val = _
  rw [hy]
  match a with
  | ⟨0, _⟩ => rfl
  | ⟨1, _⟩ => exact Nat.zero_add _

end Cert.Draws
-- ==== Proof.Step.lean ====
/-
  What the reference computes for one ant, as terms over the extended reals. `x`, `y` and `t` are the ant's place and its angle.
-/
module

public import proofs.«01_k».proof.Proof.Draws

@[expose] public section

noncomputable section

namespace Cert.Step

open Idealize.ShloMosaic Cert.Draws

/-- A literal of the programs. -/
abbrev lit (w : BitVec 32) : Ideal .f32 := FloatOps.ofBits .f32 w

/-- The angle ant `i` walks at: a drawn one if it turns, else its own. -/
def heading (t : Ideal .f32) (i : N.Idx) : Ideal .f32 := Scalar.select (turns i) (angle 0 i : Ideal .f32) t

/-- The heading of the two draws `d0` and `d1` and the angle `t`. -/
def headingOf (d0 d1 t : Ideal .f32) : Ideal .f32 :=
  Scalar.select (FloatOps.cmpf (F := Ideal) (φ := .f32) .ole d1 (FloatOps.ofBits .f32 0x3C23D70A#32))
    ((d0 : EReal) * (FloatOps.ofBits .f32 0x40000000#32 : Ideal .f32) * (FloatOps.ofBits .f32 0x40490FD8#32 : Ideal .f32) : EReal) t

theorem heading_eq (t : Ideal .f32) (i : N.Idx) : heading t i = headingOf (draw 0 i) (draw 1 i) t := by
  unfold heading headingOf turns angle; rfl

/-- A first coordinate `x` moved by the cosine of a heading `h`. -/
def moveX (x h : Ideal .f32) : Ideal .f32 := x + Ideal.cos h * lit 0x3F800000#32
/-- A second coordinate `y` moved by the sine of a heading `h`. -/
def moveY (y h : Ideal .f32) : Ideal .f32 := y + Ideal.sin h * lit 0x3F800000#32

/-- The new first coordinate before it is kept inside. -/
def stepX (x t : Ideal .f32) (i : N.Idx) : Ideal .f32 := moveX x (heading t i)
/-- The new second coordinate before it is kept inside. -/
def stepY (y t : Ideal .f32) (i : N.Idx) : Ideal .f32 := moveY y (heading t i)

/-- A coordinate kept inside the grid. -/
def inside (v : Ideal .f32) : Ideal .f32 :=
  Scalar.select (FloatOps.cmpf .ole v (lit 0x00000000#32))
    (max (lit 0x00000000#32) (min v (lit 0x3F800000#32 * lit 0x44FFE000#32)))
    (Scalar.select (FloatOps.cmpf .oge v (lit 0x45000000#32))
      (max (lit 0x00000000#32) (min v (lit 0x3F800000#32 * lit 0x44FFE000#32))) v)

/-- One if the comparison holds, else zero. -/
def unit (b : BitVec 1) : Ideal .f32 := Scalar.select b (lit 0x3F800000#32) (lit 0x00000000#32)

/-- The number of edges at which the ant stands. -/
def count (a b : Ideal .f32) : Ideal .f32 :=
  unit (FloatOps.cmpf .oge a (lit 0x45000000#32)) + unit (FloatOps.cmpf .ole a (lit 0x00000000#32))
    + unit (FloatOps.cmpf .oge b (lit 0x45000000#32)) + unit (FloatOps.cmpf .ole b (lit 0x00000000#32))

/-- The new angle of an ant whose coordinates are `a` and `b` before they are kept inside. -/
def newAngle (a b t : Ideal .f32) (i : N.Idx) : Ideal .f32 :=
  count a b * (angle 2 i : Ideal .f32)
    + max (count a b - lit 0x3F800000#32) (-(count a b - lit 0x3F800000#32)) * heading t i

end Cert.Step
-- ==== Proof.Lane.lean ====
/-
  What the kernel computes for one ant, as terms over the extended reals: `x`, `y` and `t` are the ant's place and its angle,
  `a` and `b` its entries of the two tables.
-/
module

public import proofs.«01_k».proof.Proof.Step
public import proofs.«01_k».proof.Proof.Gen.KernelIdeal.Frame
public import Idealize.ShloMosaic.Lib.Pipeline.Value

@[expose] public section

noncomputable section

namespace Cert.Lane

open Idealize.ShloMosaic Cert.Step Cert.KernelIdeal Cert.KernelIdeal.Gen

/-- The angle the ant walks at: the table's entry if it is not negative, else its own. -/
def pick (t a : Ideal .f32) : Ideal .f32 := Scalar.select (FloatOps.cmpf (F := Ideal) (φ := .f32) .oge a (lit 0x00000000#32)) a t

/-- How far the angle `h` lies before π. -/
def off (h : Ideal .f32) : Ideal .f32 := lit 0x40490FDB#32 - h

/-- The polynomial for the sine, at the distance `u` with the square `z`. -/
def sinAt (u z : Ideal .f32) : Ideal .f32 :=
  u * (((((lit 0xB2AEE90D#32 * z + lit 0x36352CBF#32) * z + lit 0xB94FB565#32) * z + lit 0x3C0884A2#32) * z + lit 0xBE2AAA5E#32) * z + lit 0x3F7FFFF9#32)

/-- The polynomial for the cosine, at the square `z`. -/
def cosAt (z : Ideal .f32) : Ideal .f32 :=
  (((((lit 0xB0ED03C6#32 * z + lit 0x34916123#32) * z + lit 0xB7CFC8EC#32) * z + lit 0x3AB607BC#32) * z + lit 0xBD2AAA7B#32) * z + lit 0x3EFFFFFC#32) * z
    + lit 0xBF800000#32

/-- The ant's first coordinate moved along the heading `h`. -/
def goX (x h : Ideal .f32) : Ideal .f32 := x + cosAt (off h * off h)
/-- The ant's second coordinate moved along the heading `h`. -/
def goY (y h : Ideal .f32) : Ideal .f32 := y + sinAt (off h) (off h * off h)

/-- A coordinate kept at zero or above. -/
def floor0 (v : Ideal .f32) : Ideal .f32 := max v (lit 0x00000000#32)

/-- The new angle, of the moved coordinates `p` and `q`, the heading `h` and the table's angle `b`: `b` if just one coordinate is at most
    zero, `h + (b + b)` if both are, else `h`. -/
def turn (p q h b : Ideal .f32) : Ideal .f32 :=
  Scalar.select (FloatOps.cmpf (F := Ideal) (φ := .f32) .ole p (lit 0x00000000#32) ^^^ FloatOps.cmpf (F := Ideal) (φ := .f32) .ole q (lit 0x00000000#32)) b
    (Scalar.select (FloatOps.cmpf (F := Ideal) (φ := .f32) .ole p (lit 0x00000000#32) &&& FloatOps.cmpf (F := Ideal) (φ := .f32) .ole q (lit 0x00000000#32)) (h + (b + b)) h)

/-! ## A block of the kernel's results, element by element -/

theorem hz : (![0] : Fin 1 → Nat) = fun _ => 0 := funext fun a => by fin_cases a <;> rfl

/-- Casting a block to its own shape leaves it. -/
theorem cast_self (v : Vec Ideal S524288 .f32) : shapeCast S524288 v shapeCasts_S524288_S524288 = v := funext fun i => by
  show v _ = v i
  rw [Shape.reshapeEquiv_self]

/-- The body loads its blocks whole. -/
theorem ld_self (v : Vec Ideal S524288 .f32) : View.ld v r0_0 = v := by
  unfold r0_0; rw [View.ld_unit_zero hz]

variable (x0 x1 x2 x3 x4 : Vec Ideal S524288 .f32)

/-- The angles a block walks at. -/
abbrev picked : Vec Ideal S524288 .f32 := fun j => pick (x2 j) (x3 j)

theorem pay7_eq : k0_pay7 (F := Ideal) x2 x3 = picked x2 x3 := by
  unfold k0_pay7; simp only; rw [cast_self]; rfl

theorem pay9_eq : k0_pay9 (F := Ideal) x2 x3 = fun j => off (pick (x2 j) (x3 j)) * off (pick (x2 j) (x3 j)) := by
  unfold k0_pay9 k0_pay8; simp only; rw [pay7_eq]; rfl

theorem pay10_eq : k0_pay10 (F := Ideal) x2 x3 = fun j => sinAt (off (pick (x2 j) (x3 j))) (off (pick (x2 j) (x3 j)) * off (pick (x2 j) (x3 j))) := by
  unfold k0_pay10 k0_pay8; simp only; rw [pay7_eq, pay9_eq]; rfl

theorem pay1_eq (z : FVec Ideal S524288 .f32) (h : k0_pay9 (F := Ideal) x2 x3 = z) :
    k0_pay1 (F := Ideal) x0 z (k0_pay11 (F := Ideal) x2 x3) (Scalar.ofBits .f32 0xBD2AAA7B#32) = fun j => (x0 j : EReal) + cosAt (z j) := by
  unfold k0_pay1 k0_pay11; simp only; rw [h]; rfl

theorem pay1_go : k0_pay1 (F := Ideal) x0 (k0_pay9 (F := Ideal) x2 x3) (k0_pay11 (F := Ideal) x2 x3) (Scalar.ofBits .f32 0xBD2AAA7B#32)
    = fun j => goX (x0 j) (pick (x2 j) (x3 j)) := by
  rw [pay1_eq x0 x2 x3 _ rfl, pay9_eq]; rfl

theorem pay2_go : k0_pay2 (F := Ideal) x1 (k0_pay10 (F := Ideal) x2 x3) = fun j => goY (x1 j) (pick (x2 j) (x3 j)) := by
  rw [pay10_eq]; rfl

theorem out5_eq : out0_5 (F := Ideal) x0 x1 x2 x3 x4 = fun j => floor0 (goX (x0 j) (pick (x2 j) (x3 j))) := by
  unfold out0_5 k0_pay12 k0_pay14
  rw [View.canon_unit_zero hz]
  simp only [ld_self]
  unfold k0_pay3
  simp only
  rw [pay1_go]
  rfl

theorem out6_eq : out0_6 (F := Ideal) x0 x1 x2 x3 x4 = fun j => floor0 (goY (x1 j) (pick (x2 j) (x3 j))) := by
  unfold out0_6 k0_pay13
  rw [View.canon_unit_zero hz]
  simp only [ld_self]
  unfold k0_pay4
  simp only
  rw [pay2_go]
  rfl

theorem out7_eq : out0_7 (F := Ideal) x0 x1 x2 x3 x4
    = fun j => turn (goX (x0 j) (pick (x2 j) (x3 j))) (goY (x1 j) (pick (x2 j) (x3 j))) (pick (x2 j) (x3 j)) (x4 j) := by
  unfold out0_7 k0_pay12 k0_pay13 k0_pay14
  rw [View.canon_unit_zero hz]
  simp only [ld_self]
  unfold k0_pay5 k0_pay6
  simp only
  rw [pay1_go, pay2_go, pay7_eq, cast_self]
  rfl

end Cert.Lane
-- ==== Proof.Tables.lean ====
/-
  What the kernel's host part leaves in the two tables that it hands to the kernel, windows 3 and 4. Its first 231 operations
  compute the keys and the hash; they are read in pieces, one per four rounds. The rest makes the two tables of it.
-/
module

public import proofs.«01_k».proof.Proof.Draws
public import proofs.«01_k».proof.Proof.Gen.KernelIdeal.Frame
public import Idealize.ShloMosaic.Lib.StableHlo.RunRead

@[expose] public section

set_option maxRecDepth 3780

noncomputable section

namespace Cert.Tables

open Idealize.ShloMosaic Idealize.ShloMosaic.TcCoe Idealize.ShloMosaic.StableHlo Cert.KernelIdeal Cert.KernelIdeal.Gen Cert.Draws

/-- The host operations from position `a` on, `n` of them. -/
abbrev piece (a n : ℕ) : List (HloOp τ sig (Elt Ideal)) := ((hostOps0 : List (HloOp τ sig (Elt Ideal))).drop a).take n

/-- The contents of the device's buffers. -/
abbrev Val := Valuation τ sig (Elt Ideal)

/-- The three keys' words lie in their buffers. -/
abbrev Keys (U : Val) : Prop := U (Proc.devRef .tc main_v0) = keys words0 ∧ U (Proc.devRef .tc main_v1) = keys words1 ∧ U (Proc.devRef .tc main_c_1) = keys words2

/-! ## The pieces -/

theorem lit0_eq : lit0 = words0 := funext fun a => by fin_cases a <;> rfl
theorem lit1_eq : lit1 = words1 := funext fun a => by fin_cases a <;> rfl
theorem lit2_eq : lit2 = words2 := funext fun a => by fin_cases a <;> rfl

/-- The first sixteen operations leave the keys. -/
theorem start_keys (U : Val) : Keys (after (piece 0 16) U) := by
  refine ⟨?_, ?_, ?_⟩ <;> after_reads_simp
  · exact (literal_list lit0 _).trans (congrArg keys lit0_eq)
  · exact (literal_list lit1 _).trans (congrArg keys lit1_eq)
  · exact (literal_K lit2).trans (congrArg keys lit2_eq)

/-- … and the two words that are hashed. -/
theorem start_words (U : Val) : after (piece 0 16) U (Proc.devRef .tc main_v7) = (start (keys words0) (keys words1)).1
    ∧ after (piece 0 16) U (Proc.devRef .tc main_v11) = (start (keys words0) (keys words1)).2 := by
  rw [← lit0_eq, ← lit1_eq, ← literal_list lit0 bcast_S3_S3x1_0, ← literal_list lit1 bcast_S3_S3x1_0]
  constructor <;> after_reads_simp <;> rfl

/-- The first four rounds and the keys added after them; the keys stay. -/
theorem step1 (U : Val) (p : W × W) (h : Keys U) (hx : U (Proc.devRef .tc main_v7) = p.1) (hy : U (Proc.devRef .tc main_v11) = p.2) :
    Keys (after (piece 16 43) U)
    ∧ after (piece 16 43) U (Proc.devRef .tc main_v41) = (key (keys words1) (keys words2) 1#32 (quadA p)).1
    ∧ after (piece 16 43) U (Proc.devRef .tc main_v45) = (key (keys words1) (keys words2) 1#32 (quadA p)).2 := by
  obtain ⟨h0, h1, h2⟩ := h
  refine ⟨⟨?_, ?_, ?_⟩, ?_, ?_⟩ <;> after_reads_simp [h0, h1, h2, hx, hy] <;> rfl

/-- The second four rounds and the keys added after them; the keys stay. -/
theorem step2 (U : Val) (p : W × W) (h : Keys U) (hx : U (Proc.devRef .tc main_v41) = p.1) (hy : U (Proc.devRef .tc main_v45) = p.2) :
    Keys (after (piece 59 43) U)
    ∧ after (piece 59 43) U (Proc.devRef .tc main_v75) = (key (keys words2) (keys words0) 2#32 (quadB p)).1
    ∧ after (piece 59 43) U (Proc.devRef .tc main_v79) = (key (keys words2) (keys words0) 2#32 (quadB p)).2 := by
  obtain ⟨h0, h1, h2⟩ := h
  refine ⟨⟨?_, ?_, ?_⟩, ?_, ?_⟩ <;> after_reads_simp [h0, h1, h2, hx, hy] <;> rfl

/-- The third four rounds and the keys added after them; the keys stay. -/
theorem step3 (U : Val) (p : W × W) (h : Keys U) (hx : U (Proc.devRef .tc main_v75) = p.1) (hy : U (Proc.devRef .tc main_v79) = p.2) :
    Keys (after (piece 102 43) U)
    ∧ after (piece 102 43) U (Proc.devRef .tc main_v109) = (key (keys words0) (keys words1) 3#32 (quadA p)).1
    ∧ after (piece 102 43) U (Proc.devRef .tc main_v113) = (key (keys words0) (keys words1) 3#32 (quadA p)).2 := by
  obtain ⟨h0, h1, h2⟩ := h
  refine ⟨⟨?_, ?_, ?_⟩, ?_, ?_⟩ <;> after_reads_simp [h0, h1, h2, hx, hy] <;> rfl

/-- The fourth four rounds and the keys added after them; the keys stay. -/
theorem step4 (U : Val) (p : W × W) (h : Keys U) (hx : U (Proc.devRef .tc main_v109) = p.1) (hy : U (Proc.devRef .tc main_v113) = p.2) :
    Keys (after (piece 145 43) U)
    ∧ after (piece 145 43) U (Proc.devRef .tc main_v143) = (key (keys words1) (keys words2) 4#32 (quadB p)).1
    ∧ after (piece 145 43) U (Proc.devRef .tc main_v147) = (key (keys words1) (keys words2) 4#32 (quadB p)).2 := by
  obtain ⟨h0, h1, h2⟩ := h
  refine ⟨⟨?_, ?_, ?_⟩, ?_, ?_⟩ <;> after_reads_simp [h0, h1, h2, hx, hy] <;> rfl

/-- The fifth four rounds and the keys added after them; the keys stay. -/
theorem step5 (U : Val) (p : W × W) (h : Keys U) (hx : U (Proc.devRef .tc main_v143) = p.1) (hy : U (Proc.devRef .tc main_v147) = p.2) :
    Keys (after (piece 188 43) U)
    ∧ after (piece 188 43) U (Proc.devRef .tc main_v177) = (key (keys words2) (keys words0) 5#32 (quadA p)).1
    ∧ after (piece 188 43) U (Proc.devRef .tc main_v181) = (key (keys words2) (keys words0) 5#32 (quadA p)).2 := by
  obtain ⟨h0, h1, h2⟩ := h
  refine ⟨⟨?_, ?_, ?_⟩, ?_, ?_⟩ <;> after_reads_simp [h0, h1, h2, hx, hy] <;> rfl

/-- The host operations are the pieces in turn. -/
theorem pieces (U : Val) : after hostOps0 U = after (piece 231 33) (after (piece 188 43) (after (piece 145 43) (after (piece 102 43)
    (after (piece 59 43) (after (piece 16 43) (after (piece 0 16) U)))))) := rfl

/-- Before the last piece the hash lies in its two buffers. -/
theorem hashed (U : Val) : ∃ U' : Val, after hostOps0 U = after (piece 231 33) U'
    ∧ U' (Proc.devRef .tc main_v177) = (hash (keys words0) (keys words1) (keys words2)).1
    ∧ U' (Proc.devRef .tc main_v181) = (hash (keys words0) (keys words1) (keys words2)).2 := by
  obtain ⟨a0, b0⟩ := start_words U
  obtain ⟨k1, a1, b1⟩ := step1 _ _ (start_keys U) a0 b0
  obtain ⟨k2, a2, b2⟩ := step2 _ _ k1 a1 b1
  obtain ⟨k3, a3, b3⟩ := step3 _ _ k2 a2 b2
  obtain ⟨k4, a4, b4⟩ := step4 _ _ k3 a3 b3
  obtain ⟨k5, a5, b5⟩ := step5 _ _ k4 a4 b4
  exact ⟨_, pieces U, a5, b5⟩

/-! ## The tables -/

/-- The table of the second angles, window 4: row 2's angles. -/
theorem table2 (U : Val) (i : N.Idx) : after (List.flatten [hostOps0, hostOps0_1]) U (Proc.devRef .tc main_v203) i = angle 2 i := by
  obtain ⟨U', h, ha, hb⟩ := hashed U
  have e : after (List.flatten [hostOps0, hostOps0_1]) U = after hostOps0_1 (after (piece 231 33) U') := by rw [← h]; rfl
  rw [e]
  after_reads_simp [ha, hb]
  exact congrArg (fun x : EReal => x * _ * _) (row_apply _ 2 _ _ i)

/-- The table of the first angles, window 3: row 0's angles where row 1's draw is small, and −1 elsewhere. -/
theorem table1 (U : Val) (i : N.Idx) : after (List.flatten [hostOps0, hostOps0_1]) U (Proc.devRef .tc main_v206) i
    = if turns i = 1#1 then angle 0 i else (FloatOps.ofBits .f32 0xBF800000#32 : Ideal .f32) := by
  obtain ⟨U', h, ha, hb⟩ := hashed U
  have e : after (List.flatten [hostOps0, hostOps0_1]) U = after hostOps0_1 (after (piece 231 33) U') := by rw [← h]; rfl
  rw [e]
  after_reads_simp [ha, hb]
  show (if FloatOps.cmpf (F := Ideal) (φ := .f32) .ole (shapeCast N (extractStridedSlice R ![(1 : Fin 3).val, 0] draws slices_S3x4194304_S1x4194304_1_0) shapeCasts_S1x4194304_S4194304 i) _ = 1#1
    then (shapeCast N (extractStridedSlice R ![(0 : Fin 3).val, 0] draws slices_S3x4194304_S1x4194304_0_0) shapeCasts_S1x4194304_S4194304 i : EReal) * _ * _ else _) = _
  rw [row_apply, row_apply]
  rfl

end Cert.Tables
-- ==== Proof.Arrays.lean ====
/-
  The kernel's three result arrays after its run, read at one ant.
-/
module

public import proofs.«01_k».proof.Proof.Lane
public import proofs.«01_k».proof.Proof.Tables
public import proofs.«01_k».proof.Proof.Gen.KernelIdeal.Value

@[expose] public section

noncomputable section

namespace Cert.Arrays

open Idealize.ShloMosaic Idealize.ShloMosaic.TcCoe Idealize.SL.Sem Cert.Step Cert.Lane Cert.KernelIdeal Cert.KernelIdeal.Gen
open Idealize.ShloMosaic.Pipeline (Dat)

/-! ## The results as functions of the five arrays that the kernel reads -/

variable (x y t a b : Vec Ideal S4194304 .f32)

abbrev G5 : Vec Ideal S4194304 .f32 := fun i => floor0 (goX (x i) (pick (t i) (a i)))
abbrev G6 : Vec Ideal S4194304 .f32 := fun i => floor0 (goY (y i) (pick (t i) (a i)))
abbrev G7 : Vec Ideal S4194304 .f32 := fun i => turn (goX (x i) (pick (t i) (a i))) (goY (y i) (pick (t i) (a i))) (pick (t i) (a i)) (b i)

/-! Computing a result of the five arrays' blocks is reading that result's block. -/

theorem block5 (p : Fin cfg0.N) : (cfg0.win 5).cut (grid0.coords p) (out0_5 (F := Ideal) ((win0_0.blk p).view.read (Elt Ideal) x) ((win0_1.blk p).view.read (Elt Ideal) y)
    ((win0_2.blk p).view.read (Elt Ideal) t) ((win0_3.blk p).view.read (Elt Ideal) a) ((win0_4.blk p).view.read (Elt Ideal) b))
    = (win0_5.blk p).view.read (Elt Ideal) (G5 x t a) := by
  rw [out5_eq]; rfl

theorem block6 (p : Fin cfg0.N) : (cfg0.win 6).cut (grid0.coords p) (out0_6 (F := Ideal) ((win0_0.blk p).view.read (Elt Ideal) x) ((win0_1.blk p).view.read (Elt Ideal) y)
    ((win0_2.blk p).view.read (Elt Ideal) t) ((win0_3.blk p).view.read (Elt Ideal) a) ((win0_4.blk p).view.read (Elt Ideal) b))
    = (win0_6.blk p).view.read (Elt Ideal) (G6 y t a) := by
  rw [out6_eq]; rfl

theorem block7 (p : Fin cfg0.N) : (cfg0.win 7).cut (grid0.coords p) (out0_7 (F := Ideal) ((win0_0.blk p).view.read (Elt Ideal) x) ((win0_1.blk p).view.read (Elt Ideal) y)
    ((win0_2.blk p).view.read (Elt Ideal) t) ((win0_3.blk p).view.read (Elt Ideal) a) ((win0_4.blk p).view.read (Elt Ideal) b))
    = (win0_7.blk p).view.read (Elt Ideal) (G7 x y t a b) := by
  rw [out7_eq]; rfl

/-! ## The blocks tile the arrays -/

/-- Ant `i` lies in block `p`. -/
abbrev Here (p : Fin cfg0.N) (i : S4194304.Idx) : Prop := p.val * 524288 ≤ (i 0 : Nat) ∧ (i 0 : Nat) < p.val * 524288 + 524288

/-- Every ant lies in a block. -/
theorem exists_here (i : S4194304.Idx) : ∃ p : Fin cfg0.N, Here p i := by
  have h : (i 0 : Nat) < 4194304 := (i 0).isLt
  have k : (i 0 : Nat) / 524288 < cfg0.N := lt_of_lt_of_eq (show (i 0 : Nat) / 524288 < 8 by omega) N_0.symm
  exact ⟨⟨(i 0 : Nat) / 524288, k⟩, show (i 0 : Nat) / 524288 * 524288 ≤ (i 0 : Nat) ∧ (i 0 : Nat) < (i 0 : Nat) / 524288 * 524288 + 524288 by omega⟩

theorem place5 : ∀ p : Fin cfg0.N, win0_5.index p 0 * win0_5.size 0 = p.val * 524288 ∧ win0_5.xsize (grid0.coords p) 0 = 524288 :=
  (by decide +kernel : ∀ p : Fin grid0.N, win0_5.index p 0 * win0_5.size 0 = p.val * 524288 ∧ win0_5.xsize (grid0.coords p) 0 = 524288)

theorem mem5 (p : Fin cfg0.N) (i : S4194304.Idx) (h : Here p i) : i ∈ ((cfg0.win 5).blk p).view.set := by
  show i ∈ ((View.whole main_v207_0).slice (win0_5.rect p)).set
  rw [View.set_slice_whole, Rect.mem_set_unit]
  intro a
  match a with
  | ⟨0, _⟩ =>
    show win0_5.index p 0 * win0_5.size 0 ≤ (i 0 : Nat) ∧ (i 0 : Nat) < win0_5.index p 0 * win0_5.size 0 + win0_5.xsize (grid0.coords p) 0
    rw [(place5 p).1, (place5 p).2]
    exact h

theorem place6 : ∀ p : Fin cfg0.N, win0_6.index p 0 * win0_6.size 0 = p.val * 524288 ∧ win0_6.xsize (grid0.coords p) 0 = 524288 :=
  (by decide +kernel : ∀ p : Fin grid0.N, win0_6.index p 0 * win0_6.size 0 = p.val * 524288 ∧ win0_6.xsize (grid0.coords p) 0 = 524288)

theorem mem6 (p : Fin cfg0.N) (i : S4194304.Idx) (h : Here p i) : i ∈ ((cfg0.win 6).blk p).view.set := by
  show i ∈ ((View.whole main_v207_1).slice (win0_6.rect p)).set
  rw [View.set_slice_whole, Rect.mem_set_unit]
  intro a
  match a with
  | ⟨0, _⟩ =>
    show win0_6.index p 0 * win0_6.size 0 ≤ (i 0 : Nat) ∧ (i 0 : Nat) < win0_6.index p 0 * win0_6.size 0 + win0_6.xsize (grid0.coords p) 0
    rw [(place6 p).1, (place6 p).2]
    exact h

theorem place7 : ∀ p : Fin cfg0.N, win0_7.index p 0 * win0_7.size 0 = p.val * 524288 ∧ win0_7.xsize (grid0.coords p) 0 = 524288 :=
  (by decide +kernel : ∀ p : Fin grid0.N, win0_7.index p 0 * win0_7.size 0 = p.val * 524288 ∧ win0_7.xsize (grid0.coords p) 0 = 524288)

theorem mem7 (p : Fin cfg0.N) (i : S4194304.Idx) (h : Here p i) : i ∈ ((cfg0.win 7).blk p).view.set := by
  show i ∈ ((View.whole main_v207_2).slice (win0_7.rect p)).set
  rw [View.set_slice_whole, Rect.mem_set_unit]
  intro a
  match a with
  | ⟨0, _⟩ =>
    show win0_7.index p 0 * win0_7.size 0 ≤ (i 0 : Nat) ∧ (i 0 : Nat) < win0_7.index p 0 * win0_7.size 0 + win0_7.xsize (grid0.coords p) 0
    rw [(place7 p).1, (place7 p).2]
    exact h

/-! ## The arrays after the run -/

variable (m : (ℓ : Loc nD τ sig) → Buf (Elt Ideal) ℓ) (ρ : Dev nD → PrngReg)

/-- The arrays that the kernel reads, on device `c`. -/
abbrev arr0 (c : Dev nD) : Vec Ideal S4194304 .f32 := V m c (Pipeline.arrRef spec0 0)
abbrev arr1 (c : Dev nD) : Vec Ideal S4194304 .f32 := V m c (Pipeline.arrRef spec0 1)
abbrev arr2 (c : Dev nD) : Vec Ideal S4194304 .f32 := V m c (Pipeline.arrRef spec0 2)
abbrev arr3 (c : Dev nD) : Vec Ideal S4194304 .f32 := V m c (Pipeline.arrRef spec0 3)
abbrev arr4 (c : Dev nD) : Vec Ideal S4194304 .f32 := V m c (Pipeline.arrRef spec0 4)

theorem final5 (c : Dev nD) : (dats m 0 c).arrAt 5 cfg0.N = G5 (arr0 m c) (arr2 m c) (arr3 m c) :=
  (dats m 0 c).arrAt_eq_of_cover 5 _ (fun p _ => (Value.flushed5 m c p).trans (block5 (arr0 m c) (arr1 m c) (arr2 m c) (arr3 m c) (arr4 m c) p)) fun i => (exists_here i).imp fun p h => ⟨flush0_5 p, mem5 p i h⟩
theorem final6 (c : Dev nD) : (dats m 0 c).arrAt 6 cfg0.N = G6 (arr1 m c) (arr2 m c) (arr3 m c) :=
  (dats m 0 c).arrAt_eq_of_cover 6 _ (fun p _ => (Value.flushed6 m c p).trans (block6 (arr0 m c) (arr1 m c) (arr2 m c) (arr3 m c) (arr4 m c) p)) fun i => (exists_here i).imp fun p h => ⟨flush0_6 p, mem6 p i h⟩
theorem final7 (c : Dev nD) : (dats m 0 c).arrAt 7 cfg0.N = G7 (arr0 m c) (arr1 m c) (arr2 m c) (arr3 m c) (arr4 m c) :=
  (dats m 0 c).arrAt_eq_of_cover 7 _ (fun p _ => (Value.flushed7 m c p).trans (block7 (arr0 m c) (arr1 m c) (arr2 m c) (arr3 m c) (arr4 m c) p)) fun i => (exists_here i).imp fun p h => ⟨flush0_7 p, mem7 p i h⟩

/-- Ant `i`'s entries of the two tables. -/
abbrev first (i : S4194304.Idx) : Ideal .f32 := if Draws.turns i = 1#1 then Draws.angle 0 i else lit 0xBF800000#32

/-- Ant `i`'s heading as the kernel picks it, from its own angle `t`. -/
abbrev chosen (t : Ideal .f32) (i : S4194304.Idx) : Ideal .f32 := pick t (first i)

theorem arr3_apply (c : Dev nD) (i : S4194304.Idx) : arr3 m c i = first i := Tables.table1 _ i
theorem arr4_apply (c : Dev nD) (i : S4194304.Idx) : arr4 m c i = (Draws.angle 2 i : Ideal .f32) := Tables.table2 _ i

/-- The ants' places and angles on device `c`, as launched. -/
abbrev px (c : Dev nD) : Vec Ideal S4194304 .f32 := m ((c : Thread nD τ).loc main_arg0)
abbrev py (c : Dev nD) : Vec Ideal S4194304 .f32 := m ((c : Thread nD τ).loc main_arg1)
abbrev pt (c : Dev nD) : Vec Ideal S4194304 .f32 := m ((c : Thread nD τ).loc main_arg2)

theorem result5 (c : Dev nD) (i : S4194304.Idx) : G5 (arr0 m c) (arr2 m c) (arr3 m c) i = floor0 (goX (px m c i) (chosen (pt m c i) i)) := by
  show floor0 (goX (arr0 m c i) (pick (arr2 m c i) (arr3 m c i))) = _
  rw [arr3_apply, show arr0 m c = px m c from V_main_arg0 m c, show arr2 m c = pt m c from V_main_arg2 m c]
theorem result6 (c : Dev nD) (i : S4194304.Idx) : G6 (arr1 m c) (arr2 m c) (arr3 m c) i = floor0 (goY (py m c i) (chosen (pt m c i) i)) := by
  show floor0 (goY (arr1 m c i) (pick (arr2 m c i) (arr3 m c i))) = _
  rw [arr3_apply, show arr1 m c = py m c from V_main_arg1 m c, show arr2 m c = pt m c from V_main_arg2 m c]
theorem result7 (c : Dev nD) (i : S4194304.Idx) : G7 (arr0 m c) (arr1 m c) (arr2 m c) (arr3 m c) (arr4 m c) i
    = turn (goX (px m c i) (chosen (pt m c i) i)) (goY (py m c i) (chosen (pt m c i) i)) (chosen (pt m c i) i) (Draws.angle 2 i) := by
  show turn (goX (arr0 m c i) (pick (arr2 m c i) (arr3 m c i))) (goY (arr1 m c i) (pick (arr2 m c i) (arr3 m c i))) (pick (arr2 m c i) (arr3 m c i)) (arr4 m c i) = _
  rw [arr3_apply, arr4_apply, show arr0 m c = px m c from V_main_arg0 m c, show arr1 m c = py m c from V_main_arg1 m c,
    show arr2 m c = pt m c from V_main_arg2 m c]

/-- After the kernel's run, its three results at ant `i`, the arguments unchanged. -/
theorem run_apply : θ_run defs (onTc (τ := τ) (main (F := Ideal))) ⟨m, fun _ => 0, ρ⟩ fun r => ∀ c : Dev nD,
      (∀ i : S4194304.Idx, r.2.mem ((c : Thread nD τ).loc main_v207_0) i = floor0 (goX (px m c i) (chosen (pt m c i) i)))
      ∧ (∀ i : S4194304.Idx, r.2.mem ((c : Thread nD τ).loc main_v207_1) i = floor0 (goY (py m c i) (chosen (pt m c i) i)))
      ∧ (∀ i : S4194304.Idx, r.2.mem ((c : Thread nD τ).loc main_v207_2) i
          = turn (goX (px m c i) (chosen (pt m c i) i)) (goY (py m c i) (chosen (pt m c i) i)) (chosen (pt m c i) i) (Draws.angle 2 i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (Value.run_blocks m ρ).mono fun r h c => by
    obtain ⟨h5, h6, h7, h⟩ := h c
    exact ⟨fun i => (congrFun (h5.trans (final5 m c)) i).trans (result5 m c i), fun i => (congrFun (h6.trans (final6 m c)) i).trans (result6 m c i),
      fun i => (congrFun (h7.trans (final7 m c)) i).trans (result7 m c i), h⟩

end Cert.Arrays
-- ==== Proof.Consts.lean ====
/-
  The real numbers that the programs' literals are.
-/
module

public import Idealize.ShloMosaic.PureOps.Ideal
import Mathlib.Tactic.NormNum

@[expose] public section

namespace Cert.Consts

open Idealize.ShloMosaic

theorem one : Ideal.ofBits .f32 0x3F800000#32 = ((1 : ℝ) : EReal) := by
  simp [Ideal.ofBits, Ideal.ieee, -EReal.coe_mul, -EReal.coe_neg]; norm_num
theorem two : Ideal.ofBits .f32 0x40000000#32 = ((2 : ℝ) : EReal) := by
  simp [Ideal.ofBits, Ideal.ieee, -EReal.coe_mul, -EReal.coe_neg]; norm_num
theorem pi_low : Ideal.ofBits .f32 0x40490FD8#32 = ((1647099 / 2 ^ 19 : ℝ) : EReal) := by
  simp [Ideal.ofBits, Ideal.ieee, -EReal.coe_mul, -EReal.coe_neg]; norm_num
theorem probability : Ideal.ofBits .f32 0x3C23D70A#32 = ((5368709 / 2 ^ 29 : ℝ) : EReal) := by
  simp [Ideal.ofBits, Ideal.ieee, -EReal.coe_mul, -EReal.coe_neg]; norm_num
theorem neg_one : Ideal.ofBits .f32 0xBF800000#32 = ((-1 : ℝ) : EReal) := by
  simp [Ideal.ofBits, Ideal.ieee, -EReal.coe_mul, -EReal.coe_neg]; norm_num
theorem size : Ideal.ofBits .f32 0x45000000#32 = ((2048 : ℝ) : EReal) := by
  simp [Ideal.ofBits, Ideal.ieee, -EReal.coe_mul, -EReal.coe_neg]; norm_num
theorem edge : Ideal.ofBits .f32 0x44FFE000#32 = ((2047 : ℝ) : EReal) := by
  simp [Ideal.ofBits, Ideal.ieee, -EReal.coe_mul, -EReal.coe_neg]; norm_num
theorem tolerance : Ideal.ofBits .f32 0x35800000#32 = ((1 / 2 ^ 20 : ℝ) : EReal) := by
  simp [Ideal.ofBits, Ideal.ieee, -EReal.coe_mul, -EReal.coe_neg]; norm_num
theorem neg_tolerance : Ideal.ofBits .f32 0xB5800000#32 = ((-1 / 2 ^ 20 : ℝ) : EReal) := by
  simp [Ideal.ofBits, Ideal.ieee, -EReal.coe_mul, -EReal.coe_neg]; norm_num
theorem full_turn : Ideal.ofBits .f32 0x40C90FD8#32 = ((1647099 / 2 ^ 18 : ℝ) : EReal) := by
  simp [Ideal.ofBits, Ideal.ieee, -EReal.coe_mul, -EReal.coe_neg]; norm_num
theorem pi_near : Ideal.ofBits .f32 0x40490FDB#32 = ((13176795 / 2 ^ 22 : ℝ) : EReal) := by
  simp [Ideal.ofBits, Ideal.ieee, -EReal.coe_mul, -EReal.coe_neg]; norm_num
theorem s0 : Ideal.ofBits .f32 0xB2AEE90D#32 = ((-11462925 / 2 ^ 49 : ℝ) : EReal) := by
  simp [Ideal.ofBits, Ideal.ieee, -EReal.coe_mul, -EReal.coe_neg]; norm_num
theorem s1 : Ideal.ofBits .f32 0x36352CBF#32 = ((11873471 / 2 ^ 42 : ℝ) : EReal) := by
  simp [Ideal.ofBits, Ideal.ieee, -EReal.coe_mul, -EReal.coe_neg]; norm_num
theorem s2 : Ideal.ofBits .f32 0xB94FB565#32 = ((-13612389 / 2 ^ 36 : ℝ) : EReal) := by
  simp [Ideal.ofBits, Ideal.ieee, -EReal.coe_mul, -EReal.coe_neg]; norm_num
theorem s3 : Ideal.ofBits .f32 0x3C0884A2#32 = ((4473425 / 2 ^ 29 : ℝ) : EReal) := by
  simp [Ideal.ofBits, Ideal.ieee, -EReal.coe_mul, -EReal.coe_neg]; norm_num
theorem s4 : Ideal.ofBits .f32 0xBE2AAA5E#32 = ((-5592367 / 2 ^ 25 : ℝ) : EReal) := by
  simp [Ideal.ofBits, Ideal.ieee, -EReal.coe_mul, -EReal.coe_neg]; norm_num
theorem s5 : Ideal.ofBits .f32 0x3F7FFFF9#32 = ((16777209 / 2 ^ 24 : ℝ) : EReal) := by
  simp [Ideal.ofBits, Ideal.ieee, -EReal.coe_mul, -EReal.coe_neg]; norm_num
theorem c0 : Ideal.ofBits .f32 0xB0ED03C6#32 = ((-7766499 / 2 ^ 52 : ℝ) : EReal) := by
  simp [Ideal.ofBits, Ideal.ieee, -EReal.coe_mul, -EReal.coe_neg]; norm_num
theorem c1 : Ideal.ofBits .f32 0x34916123#32 = ((9527587 / 2 ^ 45 : ℝ) : EReal) := by
  simp [Ideal.ofBits, Ideal.ieee, -EReal.coe_mul, -EReal.coe_neg]; norm_num
theorem c2 : Ideal.ofBits .f32 0xB7CFC8EC#32 = ((-3404347 / 2 ^ 37 : ℝ) : EReal) := by
  simp [Ideal.ofBits, Ideal.ieee, -EReal.coe_mul, -EReal.coe_neg]; norm_num
theorem c3 : Ideal.ofBits .f32 0x3AB607BC#32 = ((2982383 / 2 ^ 31 : ℝ) : EReal) := by
  simp [Ideal.ofBits, Ideal.ieee, -EReal.coe_mul, -EReal.coe_neg]; norm_num
theorem c4 : Ideal.ofBits .f32 0xBD2AAA7B#32 = ((-11184763 / 2 ^ 28 : ℝ) : EReal) := by
  simp [Ideal.ofBits, Ideal.ieee, -EReal.coe_mul, -EReal.coe_neg]; norm_num
theorem c5 : Ideal.ofBits .f32 0x3EFFFFFC#32 = ((4194303 / 2 ^ 23 : ℝ) : EReal) := by
  simp [Ideal.ofBits, Ideal.ieee, -EReal.coe_mul, -EReal.coe_neg]; norm_num

end Cert.Consts
-- ==== Proof.Range.lean ====
/-
  The draws are real numbers in `[0, 1)`, and the drawn angles lie between 0 and twice the program's π.
-/
module

public import proofs.«01_k».proof.Proof.Draws
public import proofs.«01_k».proof.Proof.Consts
import Mathlib.Tactic.NormNum
import Mathlib.Tactic.Linarith
import Mathlib.Tactic.Ring
import Mathlib.Tactic.IntervalCases
import Mathlib.Tactic.Positivity

@[expose] public section

noncomputable section

namespace Cert.Draws

open Idealize.ShloMosaic

/-- A word's high 23 bits below the exponent of `[1, 2)`. -/
theorem exponent (x : BitVec 32) : (x >>> 9 ||| 1065353216#32).extractLsb' 23 8 = 127#8 := by
  apply BitVec.eq_of_getElem_eq
  intro i hi
  interval_cases i <;> simp

theorem sign (x : BitVec 32) : (x >>> 9 ||| 1065353216#32).extractLsb' 31 1 = 0#1 := by
  apply BitVec.eq_of_getElem_eq
  intro i hi
  interval_cases i <;> simp

/-- Such a word's float lies in `[1, 2)`. -/
theorem one_to_two (x : BitVec 32) :
    ∃ r : ℝ, Ideal.ofBits .f32 (x >>> 9 ||| 1065353216#32) = (r : EReal) ∧ 1 ≤ r ∧ r < 2 := by
  have hf := ((x >>> 9 ||| 1065353216#32).extractLsb' 0 23).isLt
  generalize hn : ((x >>> 9 ||| 1065353216#32).extractLsb' 0 23).toNat = n at hf
  refine ⟨(2 ^ 23 + n) * 2 ^ (-23 : ℤ), ?_, ?_, ?_⟩
  · show Ideal.ieee 8 23 _ = _
    unfold Ideal.ieee
    rw [exponent, sign, hn]
    simp [-EReal.coe_mul, -EReal.coe_add]
    norm_num
  · have : (0 : ℝ) ≤ n := Nat.cast_nonneg n
    norm_num
    linarith
  · have : (n : ℝ) < 2 ^ 23 := by exact_mod_cast hf
    rw [show (2 : ℝ) ^ (-23 : ℤ) = 1 / 2 ^ 23 by norm_num]
    have h : ((2 : ℝ) ^ 23 + n) * (1 / 2 ^ 23) = 1 + n / 2 ^ 23 := by ring
    rw [h]
    have := (div_lt_one (by positivity : (0 : ℝ) < 2 ^ 23)).mpr this
    linarith

/-- A draw is a real number in `[0, 1)`. -/
theorem fraction_range (p : W × W) (j : T.Idx) : ∃ r : ℝ, fraction p j = (r : EReal) ∧ 0 ≤ r ∧ r < 1 := by
  obtain ⟨r, h, h1, h2⟩ := one_to_two (p.1 j ^^^ p.2 j)
  refine ⟨r - 1, ?_, by linarith, by linarith⟩
  show Ideal.ofBits .f32 ((p.1 j ^^^ p.2 j) >>> 9 ||| 1065353216#32) - Ideal.ofBits .f32 0x3F800000#32 = _
  rw [h, Consts.one]
  exact (EReal.coe_sub r 1).symm

/-- Raised to at least zero, the draws are what they were. -/
theorem max_fraction (p : W × W) :
    maximumf (fraction p) (fun _ => FloatOps.ofBits .f32 0x00000000#32) = fraction p := by
  funext j
  obtain ⟨r, h, h0, -⟩ := fraction_range p j
  show max (fraction p j) (Ideal.ofBits .f32 0x00000000#32) = _
  rw [h, Ideal.ofBits_zero_f32]
  exact max_eq_left (by exact_mod_cast h0)

/-- An angle drawn from row `d`, as a real number. -/
def angleR (d : Fin 3) (i : N.Idx) : ℝ := (angle d i).toReal

theorem angle_eq (d : Fin 3) (i : N.Idx) : angle d i = (angleR d i : EReal) ∧ 0 ≤ angleR d i ∧ angleR d i ≤ 6283185 / 10 ^ 6 := by
  obtain ⟨r, h, h0, h1⟩ := fraction_range (hash (keys words0) (keys words1) (keys words2)) (place d i)
  have e : angle d i = ((r * 2 * (1647099 / 2 ^ 19) : ℝ) : EReal) := by
    show fraction _ (place d i) * Ideal.ofBits .f32 0x40000000#32 * Ideal.ofBits .f32 0x40490FD8#32 = _
    rw [h, Consts.two, Consts.pi_low, ← EReal.coe_mul, ← EReal.coe_mul]
  have e' : angleR d i = r * 2 * (1647099 / 2 ^ 19) := by unfold angleR; rw [e]; rfl
  refine ⟨by rw [e, e'], ?_, ?_⟩ <;> rw [e']
  · positivity
  · linarith

end Cert.Draws
-- ==== Proof.SinCos.lean ====
/-
  How far the two polynomials, which the kernel evaluates in place of the sine and the cosine, lie from them on
  `|u| ≤ 22/7`. The sine and the cosine differ from their Taylor polynomials of degree 19 by at most `2·u²⁰/20!`. The
  difference of the kernel's polynomial and the Taylor polynomial is a polynomial with rational coefficients; with
  `u = 11/112·x` and its denominators cleared it is a list of integers, and `x` runs over `[0, 32]`. On `[0, 1]` a polynomial
  is at most the sum of its coefficients' absolute values; the next unit interval is moved there by `shift1`. So the bound is
  an evaluation of `bounded` on that list of integers.
-/
module

public import Mathlib.Analysis.Complex.Exponential
public import Mathlib.Analysis.SpecialFunctions.Trigonometric.Basic
import Mathlib.Tactic.Linarith
import Mathlib.Tactic.Ring
import Mathlib.Tactic.NormNum
import Mathlib.Tactic.Positivity

@[expose] public section

namespace Cert.SinCos

/-! ## Polynomials as lists of integers -/

/-- The value at `x` of the polynomial with these coefficients, lowest first. -/
noncomputable def eval : List ℤ → ℝ → ℝ
  | [], _ => 0
  | c :: p, x => c + x * eval p x

/-- The sum of two polynomials. -/
def add : List ℤ → List ℤ → List ℤ
  | [], q => q
  | p, [] => p
  | a :: p, b :: q => (a + b) :: add p q

/-- The polynomial `x ↦ p (x + 1)`. -/
def shift1 : List ℤ → List ℤ
  | [] => []
  | c :: p => let q := shift1 p; add (c :: q) q

/-- The sum of the coefficients' absolute values. -/
def size : List ℤ → ℕ
  | [] => 0
  | c :: p => c.natAbs + size p

/-- On each of the first `n` unit intervals the moved polynomial's coefficients sum to at most `B`. -/
def bounded : ℕ → List ℤ → ℕ → Bool
  | 0, _, _ => true
  | n + 1, p, B => decide (size p ≤ B) && bounded n (shift1 p) B

theorem eval_add (p q : List ℤ) (x : ℝ) : eval (add p q) x = eval p x + eval q x := by
  induction p generalizing q with
  | nil => simp [add, eval]
  | cons a p ih =>
    cases q with
    | nil => simp [add, eval]
    | cons b q => simp only [add, eval, ih]; push_cast; ring

theorem eval_shift1 (p : List ℤ) (x : ℝ) : eval (shift1 p) x = eval p (x + 1) := by
  induction p with
  | nil => simp [shift1, eval]
  | cons c p ih => simp only [shift1, eval_add, eval, ih]; ring

theorem abs_eval_le_size (p : List ℤ) {x : ℝ} (h0 : 0 ≤ x) (h1 : x ≤ 1) : |eval p x| ≤ size p := by
  induction p with
  | nil => simp [size, eval]
  | cons c p ih =>
    have e : ((c.natAbs : ℕ) : ℝ) = |(c : ℝ)| := by rw [Nat.cast_natAbs]; push_cast; rfl
    have hm : |x * eval p x| ≤ size p := by
      rw [abs_mul, abs_of_nonneg h0]
      nlinarith [abs_nonneg (eval p x)]
    simp only [size, eval]; push_cast
    linarith [abs_add_le (c : ℝ) (x * eval p x)]

/-- What `bounded` decides: a bound of the polynomial on `[0, n]`. -/
theorem abs_eval_le (n : ℕ) (p : List ℤ) (B : ℕ) (hb : bounded n p B = true) {x : ℝ} (h0 : 0 ≤ x) (hn : x ≤ n) (hpos : 0 < n) :
    |eval p x| ≤ B := by
  induction n generalizing p x with
  | zero => omega
  | succ n ih =>
    simp only [bounded, Bool.and_eq_true, decide_eq_true_eq] at hb
    rcases le_or_gt x 1 with h1 | h1
    · exact (abs_eval_le_size p h0 h1).trans (by exact_mod_cast hb.1)
    · push_cast at hn
      have hn0 : 0 < n := by
        rcases Nat.eq_zero_or_pos n with rfl | h
        · norm_num at hn; linarith
        · exact h
      have := ih (shift1 p) hb.2 (x := x - 1) (by linarith) (by linarith) hn0
      rwa [eval_shift1, sub_add_cancel] at this

/-! ## The Taylor polynomials -/

/-- The Taylor polynomial of the sine of degree 19, and of the cosine of degree 18, about 0. -/
noncomputable def sinTaylor (u : ℝ) : ℝ :=
  u - u ^ 3 / 6 + u ^ 5 / 120 - u ^ 7 / 5040 + u ^ 9 / 362880 - u ^ 11 / 39916800 + u ^ 13 / 6227020800 - u ^ 15
    / 1307674368000 + u ^ 17 / 355687428096000 - u ^ 19 / 121645100408832000
noncomputable def cosTaylor (u : ℝ) : ℝ :=
  1 - u ^ 2 / 2 + u ^ 4 / 24 - u ^ 6 / 720 + u ^ 8 / 40320 - u ^ 10 / 3628800 + u ^ 12 / 479001600 - u ^ 14 /
    87178291200 + u ^ 16 / 20922789888000 - u ^ 18 / 6402373705728000

theorem exp_near (u : ℝ) (h : |u| ≤ 22 / 7) :
    ‖Complex.exp (u * Complex.I) - ∑ m ∈ Finset.range 20, (u * Complex.I) ^ m / m.factorial‖ ≤ 1 / 10 ^ 8 := by
  have hn : ‖(u * Complex.I : ℂ)‖ = |u| := by simp
  refine (Complex.exp_bound' (n := 20) (by rw [hn]; norm_num; linarith)).trans ?_
  rw [hn]
  have : |u| ^ 20 ≤ (22 / 7) ^ 20 := pow_le_pow_left₀ (abs_nonneg u) h 20
  calc |u| ^ 20 / (Nat.factorial 20) * 2 ≤ (22 / 7) ^ 20 / (Nat.factorial 20) * 2 := by gcongr
    _ ≤ _ := by norm_num [Nat.factorial]

theorem taylor_sum (u : ℝ) :
    ∑ m ∈ Finset.range 20, ((u : ℂ) * Complex.I) ^ m / m.factorial = (cosTaylor u : ℂ) + (sinTaylor u : ℂ) * Complex.I := by
  have h4 : ∀ k : ℕ, Complex.I ^ (k + 4) = Complex.I ^ k := fun k => by rw [pow_add, Complex.I_pow_four, mul_one]
  have h3 : Complex.I ^ 3 = -Complex.I := Complex.I_pow_three
  simp only [Finset.sum_range_succ, Finset.sum_range_zero, cosTaylor, sinTaylor, mul_pow, Nat.factorial, h4, h3,
    Complex.I_sq, pow_zero, pow_one]
  push_cast
  ring

theorem taylor_near (u : ℝ) (h : |u| ≤ 22 / 7) :
    |Real.sin u - sinTaylor u| ≤ 1 / 10 ^ 8 ∧ |Real.cos u - cosTaylor u| ≤ 1 / 10 ^ 8 := by
  have hz := exp_near u h
  rw [taylor_sum, Complex.exp_mul_I] at hz
  have e : (Complex.cos u + Complex.sin u * Complex.I - ((cosTaylor u : ℂ) + (sinTaylor u : ℂ) * Complex.I))
      = ((Real.cos u - cosTaylor u : ℝ) : ℂ) + ((Real.sin u - sinTaylor u : ℝ) : ℂ) * Complex.I := by
    push_cast; ring
  rw [e] at hz
  constructor
  · have := (Complex.abs_im_le_norm _).trans hz
    simpa [Real.sin, Real.cos] using this
  · have := (Complex.abs_re_le_norm _).trans hz
    simpa [Real.sin, Real.cos] using this

/-! ## The kernel's polynomials -/

/-- The kernel's sine: `u` times a polynomial of degree 5 in `z = u²`, by Horner's rule. -/
noncomputable def sinPoly (u : ℝ) : ℝ :=
  u * ((((((-(11462925 / 2 ^ 49)) * (u * u) + (11873471 / 2 ^ 42)) * (u * u) + (-(13612389 / 2 ^ 36))) * (u * u) +
    (4473425 / 2 ^ 29)) * (u * u) + (-(5592367 / 2 ^ 25))) * (u * u) + (16777209 / 2 ^ 24))
/-- The kernel's cosine, negated: a polynomial of degree 6 in `z = u²`, by Horner's rule. -/
noncomputable def cosPoly (u : ℝ) : ℝ :=
  (((((((-(7766499 / 2 ^ 52)) * (u * u) + (9527587 / 2 ^ 45)) * (u * u) + (-(3404347 / 2 ^ 37))) * (u * u) +
    (2982383 / 2 ^ 31)) * (u * u) + (-(11184763 / 2 ^ 28))) * (u * u) + (4194303 / 2 ^ 23)) * (u * u) + (-(1)))

/-- `sinPoly u - sinTaylor u` at `u = 11/112·x`, its denominators cleared. -/
def sinDiff : List ℤ :=
  [0,
   -780597523323427873795138208127818437610176512000,
   0,
   20616979730482983448469668986308372736245760000,
   0,
   -161886402518717025882080394192044627381452800,
   0,
   548029676201822308646175656237533338009600,
   0,
   -907334810994057466168324986138788659200,
   0,
   732749989949391572922277423602647955,
   0,
   -242027468560983016176991988613120,
   0,
   11117181310692626699699355648,
   0,
   -394253093403516044307456,
   0,
   11119834626984462962]

/-- `cosPoly u + cosTaylor u` at `u = 11/112·x`, its denominators cleared. -/
def cosDiff : List ℤ :=
  [0,
   0,
   -21081044054768038328670296859060310728769536000,
   0,
   302904862616632260444055380520833795489792000,
   0,
   -1786643729855500709156804161446896625254400,
   0,
   5031853204631546002291442885299116441600,
   0,
   -7322663357838187867349923985150607360,
   0,
   5363328741724107748019874538535445,
   0,
   -1634066075906590871840977059840,
   0,
   65676151674338825830662144,
   0,
   -2070311028733107286016,
   0]

theorem sinDiff_bounded : bounded 32 sinDiff 9524547823899772581150380703718811299322512829054 = true := by decide +kernel
theorem cosDiff_bounded : bounded 32 cosDiff 9166482116234367596896606993052690573784072497135 = true := by decide +kernel

theorem eval_sinDiff (u : ℝ) : eval sinDiff (112 / 11 * u) = 19049095647799545162300761407437622598645025658109952000 * (sinPoly u - sinTaylor u) := by
  simp only [sinDiff, eval, sinPoly, sinTaylor]; push_cast; ring

theorem eval_cosDiff (u : ℝ) : eval cosDiff (112 / 11 * u) = 18332964232468735193793213986105381147568144994271232000 * (cosPoly u + cosTaylor u) := by
  simp only [cosDiff, eval, cosPoly, cosTaylor]; push_cast; ring

theorem sinPoly_neg (u : ℝ) : sinPoly (-u) = -sinPoly u := by unfold sinPoly; ring
theorem cosPoly_neg (u : ℝ) : cosPoly (-u) = cosPoly u := by unfold cosPoly; ring

theorem poly_near_of_nonneg (u : ℝ) (h0 : 0 ≤ u) (h : u ≤ 22 / 7) :
    |sinPoly u - Real.sin u| ≤ 6 / 10 ^ 7 ∧ |cosPoly u + Real.cos u| ≤ 6 / 10 ^ 7 := by
  obtain ⟨hs, hc⟩ := taylor_near u (by rwa [abs_of_nonneg h0])
  have h32 : 112 / 11 * u ≤ ((32 : ℕ) : ℝ) := by push_cast; linarith
  have bs := abs_eval_le 32 sinDiff _ sinDiff_bounded (by positivity : 0 ≤ 112 / 11 * u) h32 (by norm_num)
  have bc := abs_eval_le 32 cosDiff _ cosDiff_bounded (by positivity : 0 ≤ 112 / 11 * u) h32 (by norm_num)
  rw [eval_sinDiff, abs_mul, abs_of_pos (by norm_num), mul_comm, ← le_div_iff₀ (by norm_num)] at bs
  rw [eval_cosDiff, abs_mul, abs_of_pos (by norm_num), mul_comm, ← le_div_iff₀ (by norm_num)] at bc
  have bs' : |sinPoly u - sinTaylor u| ≤ 5 / 10 ^ 7 := bs.trans (by norm_num)
  have bc' : |cosPoly u + cosTaylor u| ≤ 5 / 10 ^ 7 := bc.trans (by norm_num)
  simp only [abs_le] at *
  refine ⟨⟨?_, ?_⟩, ?_, ?_⟩ <;> linarith

/-- On `|u| ≤ 22/7` the kernel's polynomials are within `6·10⁻⁷` of the sine and of the negated cosine. -/
theorem poly_near (u : ℝ) (h : |u| ≤ 22 / 7) :
    |sinPoly u - Real.sin u| ≤ 6 / 10 ^ 7 ∧ |cosPoly u + Real.cos u| ≤ 6 / 10 ^ 7 := by
  rw [abs_le] at h
  rcases le_total 0 u with h0 | h0
  · exact poly_near_of_nonneg u h0 h.2
  · have := poly_near_of_nonneg (-u) (by linarith) (by linarith)
    rw [sinPoly_neg, cosPoly_neg, Real.sin_neg, Real.cos_neg] at this
    refine ⟨?_, this.2⟩
    rw [← abs_neg]
    convert this.1 using 2
    ring

/-! ## At the angle itself: `u` is the single-precision number next to π less the angle -/

/-- The single-precision number next to π. -/
noncomputable def pi32 : ℝ := 13176795 / 2 ^ 22

/-- π lies between 3.1415926 and 3.1415928: the Taylor polynomial of the sine has its sign change there. -/
theorem pi_near : (31415926 : ℝ) / 10 ^ 7 < Real.pi ∧ Real.pi < 31415928 / 10 ^ 7 := by
  have h2 := Real.two_le_pi
  have h4 := Real.pi_le_four
  have ts := (taylor_near (31415926 / 10 ^ 7) (by rw [abs_le]; constructor <;> norm_num)).1
  have tl := (taylor_near (31415928 / 10 ^ 7) (by rw [abs_le]; constructor <;> norm_num)).1
  rw [abs_le] at ts tl
  have es : (2 : ℝ) / 10 ^ 8 < sinTaylor (31415926 / 10 ^ 7) := by unfold sinTaylor; norm_num
  have el : sinTaylor (31415928 / 10 ^ 7) < -(2 / 10 ^ 8) := by unfold sinTaylor; norm_num
  constructor
  · by_contra hle
    have := Real.sin_nonneg_of_nonneg_of_le_pi (x := 31415926 / 10 ^ 7 - Real.pi) (by linarith) (by norm_num at *; linarith)
    rw [Real.sin_sub_pi] at this
    linarith [ts.1]
  · by_contra hle
    have := Real.sin_nonneg_of_nonneg_of_le_pi (x := 31415928 / 10 ^ 7) (by norm_num) (by linarith)
    linarith [tl.2]

theorem pi32_near : |Real.pi - pi32| ≤ 15 / 10 ^ 8 := by
  obtain ⟨h1, h2⟩ := pi_near
  unfold pi32
  rw [abs_le]
  constructor <;> norm_num at * <;> linarith

/-- Moving the argument by at most `15·10⁻⁸` moves the sine and the cosine by at most `2·10⁻⁷`. -/
theorem sincos_move (a b : ℝ) (h : |a - b| ≤ 15 / 10 ^ 8) :
    |Real.sin a - Real.sin b| ≤ 2 / 10 ^ 7 ∧ |Real.cos a - Real.cos b| ≤ 2 / 10 ^ 7 := by
  have hd : |(a - b) / 2| ≤ 75 / 10 ^ 9 := by
    rw [abs_div, abs_two]; linarith
  have hs : |Real.sin ((a - b) / 2)| ≤ 1 / 10 ^ 7 := by
    have hb := Real.sin_bound (x := (a - b) / 2) (hd.trans (by norm_num))
    have p3 : |(a - b) / 2| ^ 3 ≤ (75 / 10 ^ 9) ^ 3 := pow_le_pow_left₀ (abs_nonneg _) hd 3
    have p5 : |(a - b) / 2| ^ 5 ≤ (75 / 10 ^ 9) ^ 5 := pow_le_pow_left₀ (abs_nonneg _) hd 5
    rw [← abs_pow] at p3
    rw [abs_le] at *
    norm_num at *
    constructor <;> linarith
  have key : ∀ s t : ℝ, |s| ≤ 1 / 10 ^ 7 → |t| ≤ 1 → |2 * s * t| ≤ 2 / 10 ^ 7 := fun s t h1 h2 => by
    rw [abs_mul, abs_mul, abs_two]
    nlinarith [abs_nonneg s, abs_nonneg t]
  constructor
  · rw [Real.sin_sub_sin]
    exact key _ _ hs (Real.abs_cos_le_one _)
  · rw [Real.cos_sub_cos, show -2 * Real.sin ((a + b) / 2) * Real.sin ((a - b) / 2)
      = -(2 * Real.sin ((a - b) / 2) * Real.sin ((a + b) / 2)) by ring, abs_neg]
    exact key _ _ hs (Real.abs_sin_le_one _)

/-- The kernel's sine and cosine of an angle `t` between 0 and 6.283185 are within `2⁻²⁰` of the true ones. -/
theorem sincos_near (t : ℝ) (h0 : 0 ≤ t) (h1 : t ≤ 6283185 / 10 ^ 6) :
    |sinPoly (pi32 - t) - Real.sin t| ≤ 1 / 2 ^ 20 ∧ |cosPoly (pi32 - t) - Real.cos t| ≤ 1 / 2 ^ 20 := by
  have hu : |pi32 - t| ≤ 22 / 7 := by
    unfold pi32; rw [abs_le]; norm_num at *; constructor <;> linarith
  obtain ⟨hs, hc⟩ := poly_near (pi32 - t) hu
  have es : Real.sin t = Real.sin (Real.pi - t) := (Real.sin_pi_sub t).symm
  have ec : Real.cos t = -Real.cos (Real.pi - t) := by rw [Real.cos_pi_sub, neg_neg]
  obtain ⟨ls, lc⟩ := sincos_move (Real.pi - t) (pi32 - t) (by
    rw [show (Real.pi - t) - (pi32 - t) = Real.pi - pi32 by ring]; exact pi32_near)
  rw [es, ec]
  simp only [abs_le] at *
  norm_num at *
  refine ⟨⟨?_, ?_⟩, ⟨?_, ?_⟩⟩ <;> linarith

end Cert.SinCos

end
-- ==== Proof.Real.lean ====
/-
  The kernel's and the reference's terms as real numbers, at an ant whose place lies in [0, 1).
-/
module

public import proofs.«01_k».proof.Proof.Arrays
public import proofs.«01_k».proof.Proof.Range
public import proofs.«01_k».proof.Proof.SinCos

@[expose] public section

noncomputable section

namespace Cert.Real

open Idealize.ShloMosaic Cert.Draws Cert.Step Cert.Lane Cert.SinCos

/-! ## Comparisons -/

theorem bit_ofBool (p : Prop) [Decidable p] : BitVec.ofBool (decide p) = 1#1 ↔ p := by
  by_cases h : p <;> simp [h]

theorem le_iff (a b : Ideal .f32) : FloatOps.cmpf (F := Ideal) (φ := .f32) .ole a b = 1#1 ↔ (a : EReal) ≤ b := bit_ofBool _
theorem ge_iff (a b : Ideal .f32) : FloatOps.cmpf (F := Ideal) (φ := .f32) .oge a b = 1#1 ↔ (b : EReal) ≤ a := bit_ofBool _
theorem lt_iff (a b : Ideal .f32) : FloatOps.cmpf (F := Ideal) (φ := .f32) .olt a b = 1#1 ↔ (a : EReal) < b := bit_ofBool _
theorem gt_iff (a b : Ideal .f32) : FloatOps.cmpf (F := Ideal) (φ := .f32) .ogt a b = 1#1 ↔ (b : EReal) < a := bit_ofBool _

theorem and_iff (a b : BitVec 1) : a &&& b = 1#1 ↔ a = 1#1 ∧ b = 1#1 := by
  revert a b; decide

/-- A value between two real numbers is real. -/
theorem real_of_between {v : EReal} {l u : ℝ} (hl : (l : EReal) ≤ v) (hu : v < (u : EReal)) : ∃ r : ℝ, v = r ∧ l ≤ r ∧ r < u := by
  induction v with
  | bot => exact absurd (le_bot_iff.1 hl) (EReal.coe_ne_bot l)
  | top => exact absurd hu not_top_lt
  | coe r => exact ⟨r, rfl, by exact_mod_cast hl, by exact_mod_cast hu⟩

/-- Choosing by a comparison's bit. -/
theorem select_iff {c : BitVec 1} {p : Prop} [Decidable p] (h : c = 1#1 ↔ p) (a b : Ideal .f32) : Scalar.select c a b = if p then a else b := by
  unfold Scalar.select; exact if_congr h rfl rfl

theorem zero : (lit 0x00000000#32 : EReal) = ((0 : ℝ) : EReal) := Ideal.ofBits_zero_f32

/-! ## The heading -/

/-- An ant's heading is a real number of [0, 6.283185]. -/
theorem heading_real (i : N.Idx) {t : ℝ} (h0 : 0 ≤ t) (h1 : t ≤ 6283185 / 10 ^ 6) :
    ∃ h : ℝ, heading ((t : EReal) : Ideal .f32) i = ((h : EReal) : Ideal .f32) ∧ 0 ≤ h ∧ h ≤ 6283185 / 10 ^ 6 := by
  unfold heading Scalar.select
  split
  · exact ⟨angleR 0 i, angle_eq 0 i⟩
  · exact ⟨t, rfl, h0, h1⟩

/-- The kernel picks the reference's heading. -/
theorem chosen_eq (t : Ideal .f32) (i : N.Idx) : Arrays.chosen t i = heading t i := by
  obtain ⟨e, h0, -⟩ := angle_eq 0 i
  unfold Arrays.chosen pick heading
  rw [select_iff (ge_iff _ _), select_iff (Iff.rfl : turns i = 1#1 ↔ turns i = 1#1)]
  unfold Arrays.first
  by_cases c : turns i = 1#1
  · rw [if_pos c, if_pos c, if_pos]
    rw [e, zero]; exact_mod_cast h0
  · rw [if_neg c, if_neg c, if_neg]
    rw [show (lit 0xBF800000#32 : EReal) = ((-1 : ℝ) : EReal) from Consts.neg_one, zero, not_le]
    exact_mod_cast neg_one_lt_zero

/-! ## The moved coordinates -/

theorem off_real (h : ℝ) : off ((h : EReal) : Ideal .f32) = (((pi32 - h : ℝ) : EReal) : Ideal .f32) := by
  show (Ideal.ofBits .f32 0x40490FDB#32 : EReal) - (h : EReal) = _
  rw [Consts.pi_near, ← EReal.coe_sub]; rfl

theorem sin_real (u : ℝ) : sinAt ((u : EReal) : Ideal .f32) (((u : EReal) * (u : EReal) : EReal) : Ideal .f32) = ((sinPoly u : ℝ) : EReal) := by
  show (u : EReal) * ((((((Ideal.ofBits .f32 0xB2AEE90D#32 : EReal) * ((u : EReal) * u) + Ideal.ofBits .f32 0x36352CBF#32) * ((u : EReal) * u) + Ideal.ofBits .f32 0xB94FB565#32) * ((u : EReal) * u)
    + Ideal.ofBits .f32 0x3C0884A2#32) * ((u : EReal) * u) + Ideal.ofBits .f32 0xBE2AAA5E#32) * ((u : EReal) * u) + Ideal.ofBits .f32 0x3F7FFFF9#32) = _
  rw [Consts.s0, Consts.s1, Consts.s2, Consts.s3, Consts.s4, Consts.s5]
  simp only [← EReal.coe_mul, ← EReal.coe_add]
  congr 1
  unfold sinPoly
  ring

theorem cos_real (u : ℝ) : cosAt (((u : EReal) * (u : EReal) : EReal) : Ideal .f32) = ((cosPoly u : ℝ) : EReal) := by
  show (((((((Ideal.ofBits .f32 0xB0ED03C6#32 : EReal) * ((u : EReal) * u) + Ideal.ofBits .f32 0x34916123#32) * ((u : EReal) * u) + Ideal.ofBits .f32 0xB7CFC8EC#32) * ((u : EReal) * u)
    + Ideal.ofBits .f32 0x3AB607BC#32) * ((u : EReal) * u) + Ideal.ofBits .f32 0xBD2AAA7B#32) * ((u : EReal) * u) + Ideal.ofBits .f32 0x3EFFFFFC#32) * ((u : EReal) * u)
    + Ideal.ofBits .f32 0xBF800000#32) = _
  rw [Consts.c0, Consts.c1, Consts.c2, Consts.c3, Consts.c4, Consts.c5, Consts.neg_one]
  simp only [← EReal.coe_mul, ← EReal.coe_add]
  congr 1
  unfold cosPoly
  ring

theorem goX_real (x h : ℝ) : goX ((x : EReal) : Ideal .f32) ((h : EReal) : Ideal .f32) = ((x + cosPoly (pi32 - h) : ℝ) : EReal) := by
  unfold goX; rw [off_real, EReal.coe_add]; exact congrArg (fun v : EReal => (x : EReal) + v) (cos_real _)
theorem goY_real (y h : ℝ) : goY ((y : EReal) : Ideal .f32) ((h : EReal) : Ideal .f32) = ((y + sinPoly (pi32 - h) : ℝ) : EReal) := by
  unfold goY; rw [off_real, EReal.coe_add]; exact congrArg (fun v : EReal => (y : EReal) + v) (sin_real _)
theorem moveX_real (x h : ℝ) : moveX ((x : EReal) : Ideal .f32) ((h : EReal) : Ideal .f32) = ((x + Real.cos h : ℝ) : EReal) := by
  show (x : EReal) + (Real.cos h : EReal) * Ideal.ofBits .f32 0x3F800000#32 = _
  rw [Consts.one, EReal.coe_one, mul_one, EReal.coe_add]
theorem moveY_real (y h : ℝ) : moveY ((y : EReal) : Ideal .f32) ((h : EReal) : Ideal .f32) = ((y + Real.sin h : ℝ) : EReal) := by
  show (y : EReal) + (Real.sin h : EReal) * Ideal.ofBits .f32 0x3F800000#32 = _
  rw [Consts.one, EReal.coe_one, mul_one, EReal.coe_add]

/-! ## Keeping a coordinate inside -/

theorem floor0_real (v : ℝ) : floor0 ((v : EReal) : Ideal .f32) = ((max v 0 : ℝ) : EReal) := by
  show max (v : EReal) (lit 0x00000000#32) = _
  rw [zero]; exact (EReal.coe_strictMono.monotone.map_max).symm

/-- Below 2, keeping a coordinate inside the grid only raises it to zero. -/
theorem inside_real {v : ℝ} (h : v < 2) : inside ((v : EReal) : Ideal .f32) = ((max v 0 : ℝ) : EReal) := by
  unfold inside
  rw [select_iff (le_iff _ _), select_iff (ge_iff _ _), zero, show (lit 0x45000000#32 : EReal) = ((2048 : ℝ) : EReal) from Consts.size,
    show (lit 0x3F800000#32 * lit 0x44FFE000#32 : EReal) = ((2047 : ℝ) : EReal) by
      show (Ideal.ofBits .f32 0x3F800000#32 : EReal) * Ideal.ofBits .f32 0x44FFE000#32 = _
      rw [Consts.one, Consts.edge, EReal.coe_one, one_mul]]
  simp only [EReal.coe_le_coe_iff]
  rw [if_neg (show ¬ (2048 : ℝ) ≤ v by linarith)]
  split
  · rename_i c
    rw [max_eq_right c]
    show max ((0 : ℝ) : EReal) (min (v : EReal) ((2047 : ℝ) : EReal)) = _
    rw [min_eq_left (by exact_mod_cast (by linarith : v ≤ 2047)), max_eq_left (by exact_mod_cast c)]
  · rename_i c
    rw [max_eq_left (not_le.1 c).le]

/-! ## The new angle -/

/-- Choosing by two bits: one of three values by how many are set. -/
theorem select_two {s r : BitVec 1} {P Q : Prop} [Decidable P] [Decidable Q] (hs : s = 1#1 ↔ P) (hr : r = 1#1 ↔ Q) (both one none : Ideal .f32) :
    Scalar.select (s ^^^ r) one (Scalar.select (s &&& r) both none) = if P then if Q then both else one else if Q then one else none := by
  have cases (w : BitVec 1) : w = 0#1 ∨ w = 1#1 := by revert w; decide
  rcases cases s with rfl | rfl <;> rcases cases r with rfl | rfl <;> simp [Scalar.select, ← hs, ← hr]

/-- A real value's comparison with zero. -/
theorem le_zero_iff (v : ℝ) : FloatOps.cmpf (F := Ideal) (φ := .f32) .ole ((v : EReal) : Ideal .f32) (lit 0x00000000#32) = 1#1 ↔ v ≤ 0 := by
  rw [le_iff, zero, EReal.coe_le_coe_iff]

/-- The kernel's choice among the three new angles, as a real number. -/
theorem turn_real (p q h b : ℝ) : turn ((p : EReal) : Ideal .f32) ((q : EReal) : Ideal .f32) ((h : EReal) : Ideal .f32) ((b : EReal) : Ideal .f32)
    = (((if p ≤ 0 then if q ≤ 0 then h + (b + b) else b else if q ≤ 0 then b else h : ℝ)) : EReal) := by
  unfold turn
  rw [select_two (le_zero_iff p) (le_zero_iff q)]
  split <;> split <;> rfl

theorem unit_real {c : BitVec 1} {p : Prop} [Decidable p] (h : c = 1#1 ↔ p) : unit c = (((if p then 1 else 0 : ℝ)) : EReal) := by
  unfold unit
  rw [select_iff h]
  split
  · exact Consts.one
  · exact zero

/-- The number of edges at which an ant below 2 stands. -/
theorem count_real {p q : ℝ} (hp : p < 2) (hq : q < 2) : Step.count ((p : EReal) : Ideal .f32) ((q : EReal) : Ideal .f32)
    = (((if p ≤ 0 then 1 else 0) + (if q ≤ 0 then 1 else 0) : ℝ) : EReal) := by
  have s : (lit 0x45000000#32 : EReal) = ((2048 : ℝ) : EReal) := Consts.size
  have big {v : ℝ} (h : v < 2) : ¬ (2048 : ℝ) ≤ v := by linarith
  unfold Step.count
  rw [unit_real (ge_iff _ _), unit_real (le_iff _ _), unit_real (ge_iff _ _), unit_real (le_iff _ _), s, zero]
  simp only [EReal.coe_le_coe_iff, if_neg (big hp), if_neg (big hq)]
  rw [← EReal.coe_add, ← EReal.coe_add, ← EReal.coe_add, zero_add, add_zero]

/-- The reference's new angle, as a real number. -/
theorem newAngle_real {p q : ℝ} (hp : p < 2) (hq : q < 2) (t : Ideal .f32) (h : ℝ) (i : N.Idx) (e : heading t i = ((h : EReal) : Ideal .f32)) :
    newAngle ((p : EReal) : Ideal .f32) ((q : EReal) : Ideal .f32) t i
    = (((if p ≤ 0 then if q ≤ 0 then h + (angleR 2 i + angleR 2 i) else angleR 2 i else if q ≤ 0 then angleR 2 i else h : ℝ)) : EReal) := by
  unfold newAngle
  rw [count_real hp hq, e, (angle_eq 2 i).1, show (lit 0x3F800000#32 : EReal) = ((1 : ℝ) : EReal) from Consts.one, ← EReal.coe_sub, ← EReal.coe_neg,
    ← EReal.coe_strictMono.monotone.map_max, ← EReal.coe_mul, ← EReal.coe_mul, ← EReal.coe_add]
  congr 1
  split <;> split <;> norm_num <;> ring

end Cert.Real
-- ==== Proof.InRange.lean ====
/-
  The statement's precondition `in_range`, read at one ant.
-/

module

public import proofs.«01_k».proof.Proof.Step
public import proofs.«01_k».proof.Proof.Gen.Pre_in_range

@[expose] public section

noncomputable section

namespace Cert.Masks

open Idealize.ShloMosaic Cert.Draws Cert.Step

section
variable [Cert.Pre_in_range.Facts]

/-- `in_range` at ant `i`: the comparisons it makes. -/
theorem in_range_apply (x y t : FVec Ideal N .f32) (g : FVec Ideal ⟨2, ![2048, 2048]⟩ .f32) (i : N.Idx) :
    Pre_in_range.fn (F := Ideal) x y t g i
      = FloatOps.cmpf .oge (x i) (lit 0x00000000#32) &&& FloatOps.cmpf .olt (x i) (lit 0x3F800000#32)
        &&& FloatOps.cmpf .oge (y i) (lit 0x00000000#32) &&& FloatOps.cmpf .olt (y i) (lit 0x3F800000#32)
        &&& FloatOps.cmpf .oge (t i) (lit 0x00000000#32) &&& FloatOps.cmpf .olt (t i) (lit 0x40C90FD8#32) := rfl

end

end Cert.Masks
-- ==== Proof.OffEdge.lean ====
/-
  The statement's mask `off_edge`, read at one ant: where its three arrays are set.
-/

module

public import proofs.«01_k».proof.Proof.Step
public import proofs.«01_k».proof.Proof.Range
public import proofs.«01_k».proof.Proof.Gen.On_off_edge

@[expose] public section

noncomputable section

namespace Cert.Masks

open Idealize.ShloMosaic Cert.Draws Cert.Step

section
open Cert.On_off_edge Cert.On_off_edge.Facts
variable [Cert.On_off_edge.Facts]

theorem lit0_on : On_off_edge.lit0 = words0 := funext fun a => by fin_cases a <;> rfl
theorem lit1_on : On_off_edge.lit1 = words1 := funext fun a => by fin_cases a <;> rfl

theorem four_on (a b : W) : On_off_edge.fn_four_rounds (F := Ideal) a b = quadA (a, b) := rfl
theorem four0_on (a b : W) : On_off_edge.fn_four_rounds_0 (F := Ideal) a b = quadB (a, b) := rfl

theorem threefry_on (k0 k1 : IVec K 32) : On_off_edge.fn_threefry (F := Ideal) k0 k1 (fun _ => 0#32) (iotaInDim N 32 0)
    = hash k0 k1 (fun i => k0 i ^^^ k1 i ^^^ 466688986#32) := by
  simp only [On_off_edge.fn_threefry, On_off_edge.fn_threefry_part1, On_off_edge.fn_threefry_part2, four_on, four0_on]
  rfl

theorem draws_on : maximumf (fraction (On_off_edge.fn_threefry (F := Ideal) (fun i => On_off_edge.lit0 (K.rowMajor i)) (fun i => On_off_edge.lit1 (K.rowMajor i))
    (fun _ => 0#32) (iotaInDim N 32 0))) (fun _ => FloatOps.ofBits .f32 0x00000000#32) = draws := by
  rw [literal_K, literal_K, lit0_on, lit1_on, threefry_on, words2_eq, max_fraction]
  rfl

/-- Whether a value is beyond the tolerance. -/
def far (v : Ideal .f32) : BitVec 1 := FloatOps.cmpf .ogt (max v (-v)) (lit 0x35800000#32)
/-- Whether a value is below minus the tolerance. -/
def below (v : Ideal .f32) : BitVec 1 := FloatOps.cmpf .ole v (lit 0xB5800000#32)

/-! The parts into which the function is printed, last first, over any rows of draws. -/

theorem on_part2 (a b : FVec Ideal N .f32) (l : IVec N 1) (i : N.Idx) :
    (On_off_edge.fn_part2 (F := Ideal) a b l).1 i = l i ∧ (On_off_edge.fn_part2 (F := Ideal) a b l).2.1 i = below (b i)
    ∧ (On_off_edge.fn_part2 (F := Ideal) a b l).2.2 i = far (a i) &&& far (b i) := ⟨rfl, rfl, rfl⟩

theorem on_part1 (x y t d0 d1 : FVec Ideal N .f32) (d : FVec Ideal T .f32)
    (r1 : shapeCast N (extractStridedSlice R ![1, 0] d slices_S3x4194304_S1x4194304_1_0) shapeCasts_S1x4194304_S4194304 = d1) :
    On_off_edge.fn_part1 (F := Ideal) x y t d d0 (constant ⟨0, ![]⟩ .f32 0x40000000#32)
      = On_off_edge.fn_part2 (F := Ideal) (fun i => moveX (x i) (headingOf (d0 i) (d1 i) (t i))) (fun i => moveY (y i) (headingOf (d0 i) (d1 i) (t i)))
        (fun i => below (moveX (x i) (headingOf (d0 i) (d1 i) (t i)))) := by
  unfold On_off_edge.fn_part1; simp only; rw [r1]; rfl

/-- The three arrays of `off_edge` at ant `i`. -/
theorem off_edge_apply (x y t : FVec Ideal N .f32) (g : FVec Ideal ⟨2, ![2048, 2048]⟩ .f32) (i : N.Idx) :
    (On_off_edge.fn (F := Ideal) x y t g).1 i = below (stepX (x i) (t i) i)
    ∧ (On_off_edge.fn (F := Ideal) x y t g).2.1 i = below (stepY (y i) (t i) i)
    ∧ (On_off_edge.fn (F := Ideal) x y t g).2.2 i = far (stepX (x i) (t i) i) &&& far (stepY (y i) (t i) i) := by
  have e : On_off_edge.fn (F := Ideal) x y t g = On_off_edge.fn_part1 (F := Ideal) x y t draws
      (shapeCast N (extractStridedSlice R ![(0 : Fin 3).val, 0] draws slices_S3x4194304_S1x4194304_0_0) shapeCasts_S1x4194304_S4194304)
      (constant ⟨0, ![]⟩ .f32 0x40000000#32) := by
    rw [← draws_on]; rfl
  have r0 : shapeCast N (extractStridedSlice R ![(0 : Fin 3).val, 0] draws slices_S3x4194304_S1x4194304_0_0) shapeCasts_S1x4194304_S4194304 = draw 0 :=
    funext fun i => row_apply draws 0 _ _ i
  have r1 : shapeCast N (extractStridedSlice R ![1, 0] draws slices_S3x4194304_S1x4194304_1_0) shapeCasts_S1x4194304_S4194304 = draw 1 :=
    funext fun i => row_apply draws 1 _ _ i
  rw [e, r0, on_part1 x y t (draw 0) (draw 1) draws r1, stepX, stepY, heading_eq]
  exact on_part2 _ _ _ i

end

end Cert.Masks
-- ==== Proof.Close.lean ====
/-
  The statement's predicate `close`, read at one ant: what it asks of the kernel's results.
-/

module

public import proofs.«01_k».proof.Proof.Step
public import proofs.«01_k».proof.Proof.Range
public import proofs.«01_k».proof.Proof.Gen.Post_close

@[expose] public section

noncomputable section

namespace Cert.Masks

open Idealize.ShloMosaic Cert.Draws Cert.Step

section
open Cert.Post_close Cert.Post_close.Facts
variable [Cert.Post_close.Facts]

theorem lit0_post : Post_close.lit0 = words0 := funext fun a => by fin_cases a <;> rfl
theorem lit1_post : Post_close.lit1 = words1 := funext fun a => by fin_cases a <;> rfl

theorem four_post (a b : W) : Post_close.fn_four_rounds (F := Ideal) a b = quadA (a, b) := rfl
theorem four0_post (a b : W) : Post_close.fn_four_rounds_0 (F := Ideal) a b = quadB (a, b) := rfl

theorem threefry_post (k0 k1 : IVec K 32) : Post_close.fn_threefry (F := Ideal) k0 k1 (fun _ => 0#32) (iotaInDim N 32 0)
    = hash k0 k1 (fun i => k0 i ^^^ k1 i ^^^ 466688986#32) := by
  simp only [Post_close.fn_threefry, Post_close.fn_threefry_part1, Post_close.fn_threefry_part2, four_post, four0_post]
  rfl

theorem draws_post : maximumf (fraction (Post_close.fn_threefry (F := Ideal) (fun i => Post_close.lit0 (K.rowMajor i)) (fun i => Post_close.lit1 (K.rowMajor i))
    (fun _ => 0#32) (iotaInDim N 32 0))) (fun _ => FloatOps.ofBits .f32 0x00000000#32) = draws := by
  rw [literal_K, literal_K, lit0_post, lit1_post, threefry_post, words2_eq, max_fraction]
  rfl

/-- Two differences are at most the tolerance. -/
def small (d e : Ideal .f32) : BitVec 1 :=
  FloatOps.cmpf .ole (max d (-d)) (lit 0x35800000#32) &&& FloatOps.cmpf .ole (max e (-e)) (lit 0x35800000#32)

/-- A coordinate kept inside the grid, over the arrays the printed function uses: `z` zeros, `b` the edge. -/
def clamp (z b v : FVec Ideal N .f32) (low : IVec N 1) (r : FVec Ideal N .f32) : FVec Ideal N .f32 :=
  select low (maximumf z (minimumf v b)) r

/-! The parts into which the function is printed, last first. -/

theorem post_part5 (y' ry dx : FVec Ideal N .f32) (i : N.Idx) :
    Post_close.fn_part5 (F := Ideal) y' ry dx i = small (dx i) (y' i - ry i) := rfl

theorem post_part4 (x' y' v0 v1 v25 v29 v33 v39 rx ry : FVec Ideal N .f32) (v69 : IVec N 1) (i : N.Idx) :
    Post_close.fn_part4 (F := Ideal) x' y' v0 v1 v25 v29 v33 v39 rx ry v69 i = small (x' i - rx i) (y' i - ry i) := by
  unfold Post_close.fn_part4; rw [post_part5]; rfl

theorem post_part3 (x' y' v25 v29 v33 v39 v46 : FVec Ideal N .f32) (v48 : IVec N 1) (v50 : FVec Ideal N .f32) (i : N.Idx) :
    Post_close.fn_part3 (F := Ideal) x' y' (fun _ => lit 0x00000000#32) (fun _ => lit 0x3F800000#32) v25 v29 v33 v39 v46 v48 v50 i
      = small (x' i - clamp (fun _ => lit 0x00000000#32) v50 v29 v48 v46 i) (y' i - inside (v33 i)) := by
  unfold Post_close.fn_part3; simp only; rw [post_part4]; rfl

theorem post_part2 (y x' y' : FVec Ideal N .f32) (v14 : FVec Ideal T .f32) (v25 v29 v32 : FVec Ideal N .f32) (i : N.Idx) :
    Post_close.fn_part2 (F := Ideal) y x' y' (fun _ => lit 0x00000000#32) (fun _ => lit 0x3F800000#32) v14 v25 v29 v32 i
      = small (x' i - inside (v29 i)) (y' i - inside (y i + v32 i)) := by
  unfold Post_close.fn_part2; simp only; rw [post_part3]; rfl

theorem post_part1 (x y t x' y' d0 d1 : FVec Ideal N .f32) (p : FVec Ideal T .f32)
    (r0 : shapeCast N (extractStridedSlice R ![0, 0] (maximumf p fun _ => FloatOps.ofBits .f32 0x00000000#32) slices_S3x4194304_S1x4194304_0_0) shapeCasts_S1x4194304_S4194304 = d0)
    (r1 : shapeCast N (extractStridedSlice R ![1, 0] (maximumf p fun _ => FloatOps.ofBits .f32 0x00000000#32) slices_S3x4194304_S1x4194304_1_0) shapeCasts_S1x4194304_S4194304 = d1)
    (i : N.Idx) :
    Post_close.fn_part1 (F := Ideal) x y t x' y' (fun _ => lit 0x00000000#32) (fun _ => lit 0x3F800000#32) p (fun _ => FloatOps.ofBits .f32 0x00000000#32) i
      = small (x' i - inside (moveX (x i) (headingOf (d0 i) (d1 i) (t i)))) (y' i - inside (moveY (y i) (headingOf (d0 i) (d1 i) (t i)))) := by
  unfold Post_close.fn_part1; simp only; rw [r0, r1, post_part2]; rfl

/-- `close` at ant `i`: the two coordinates lie within the tolerance of the reference's. -/
theorem close_apply (x y t : FVec Ideal N .f32) (g : FVec Ideal ⟨2, ![2048, 2048]⟩ .f32) (x' y' t' : FVec Ideal N .f32) (i : N.Idx) :
    Post_close.fn (F := Ideal) x y t g x' y' t' i
      = small (x' i - inside (stepX (x i) (t i) i)) (y' i - inside (stepY (y i) (t i) i)) := by
  have e : Post_close.fn (F := Ideal) x y t g x' y' t' = Post_close.fn_part1 (F := Ideal) x y t x' y' (fun _ => lit 0x00000000#32) (fun _ => lit 0x3F800000#32)
      (fraction (Post_close.fn_threefry (F := Ideal) (fun i => Post_close.lit0 (K.rowMajor i)) (fun i => Post_close.lit1 (K.rowMajor i))
        (fun _ => 0#32) (iotaInDim N 32 0))) (fun _ => FloatOps.ofBits .f32 0x00000000#32) := rfl
  have r0 : shapeCast N (extractStridedSlice R ![0, 0] draws slices_S3x4194304_S1x4194304_0_0) shapeCasts_S1x4194304_S4194304 = draw 0 :=
    funext fun i => row_apply draws 0 _ _ i
  have r1 : shapeCast N (extractStridedSlice R ![1, 0] draws slices_S3x4194304_S1x4194304_1_0) shapeCasts_S1x4194304_S4194304 = draw 1 :=
    funext fun i => row_apply draws 1 _ _ i
  rw [e, post_part1 x y t x' y' (draw 0) (draw 1) _ (by rw [draws_post, r0]) (by rw [draws_post, r1]), stepX, stepY, heading_eq]

end

end Cert.Masks
-- ==== Proof.Ant.lean ====
/-
  The kernel and the reference at one ant: the places lie within 2⁻²⁰ of each other, and where the reference's moved coordinates lie
  farther than that from zero the results that the statement names are equal.
-/
module

public import proofs.«01_k».proof.Proof.Real
public import proofs.«01_k».proof.Proof.InRange
public import proofs.«01_k».proof.Proof.OffEdge
public import proofs.«01_k».proof.Proof.Close

@[expose] public section

noncomputable section

namespace Cert.Ant

open Idealize.ShloMosaic Cert.Draws Cert.Step Cert.Lane Cert.Masks Cert.Real Cert.SinCos

/-- What `in_range` asks of an ant. -/
def Ranged (x y t : Ideal .f32) : Prop :=
  FloatOps.cmpf (F := Ideal) (φ := .f32) .oge x (lit 0x00000000#32) &&& FloatOps.cmpf (F := Ideal) (φ := .f32) .olt x (lit 0x3F800000#32)
    &&& FloatOps.cmpf (F := Ideal) (φ := .f32) .oge y (lit 0x00000000#32) &&& FloatOps.cmpf (F := Ideal) (φ := .f32) .olt y (lit 0x3F800000#32)
    &&& FloatOps.cmpf (F := Ideal) (φ := .f32) .oge t (lit 0x00000000#32) &&& FloatOps.cmpf (F := Ideal) (φ := .f32) .olt t (lit 0x40C90FD8#32) = 1#1

/-- The kernel's moved coordinates `p` and `q` and the reference's `v` and `w`, real numbers, and how they lie. -/
structure Moved (x y t : Ideal .f32) (i : N.Idx) (h p q v w : ℝ) : Prop where
  heading : heading t i = ((h : EReal) : Ideal .f32)
  goX : goX x (Arrays.chosen t i) = (p : EReal)
  goY : goY y (Arrays.chosen t i) = (q : EReal)
  stepX : stepX x t i = (v : EReal)
  stepY : stepY y t i = (w : EReal)
  nearX : |p - v| ≤ 1 / 2 ^ 20
  nearY : |q - w| ≤ 1 / 2 ^ 20
  smallX : v < 2
  smallY : w < 2

/-- Every ant in range has such numbers. -/
theorem moved {x y t : Ideal .f32} (i : N.Idx) (r : Ranged x y t) : ∃ h p q v w : ℝ, Moved x y t i h p q v w := by
  obtain ⟨⟨⟨⟨⟨x0, x1⟩, y0⟩, y1⟩, t0⟩, t1⟩ := by
    unfold Ranged at r
    simpa only [and_iff, ge_iff, lt_iff, zero] using r
  rw [show (lit 0x3F800000#32 : EReal) = ((1 : ℝ) : EReal) from Consts.one] at x1 y1
  rw [show (lit 0x40C90FD8#32 : EReal) = ((1647099 / 2 ^ 18 : ℝ) : EReal) from Consts.full_turn] at t1
  obtain ⟨x, rfl, -, x1⟩ := real_of_between x0 x1
  obtain ⟨y, rfl, -, y1⟩ := real_of_between y0 y1
  obtain ⟨t, rfl, t0, t1⟩ := real_of_between t0 t1
  obtain ⟨h, e, h0, h1⟩ := heading_real i t0 (by norm_num at t1 ⊢; linarith)
  obtain ⟨ns, nc⟩ := sincos_near h h0 h1
  refine ⟨h, x + cosPoly (pi32 - h), y + sinPoly (pi32 - h), x + Real.cos h, y + Real.sin h, e, ?_, ?_, ?_, ?_, ?_, ?_, ?_, ?_⟩
  · rw [chosen_eq, e]; exact goX_real x h
  · rw [chosen_eq, e]; exact goY_real y h
  · unfold stepX; rw [e]; exact moveX_real x h
  · unfold stepY; rw [e]; exact moveY_real y h
  · rwa [add_sub_add_left_eq_sub]
  · rwa [add_sub_add_left_eq_sub]
  · linarith [Real.cos_le_one h]
  · linarith [Real.sin_le_one h]

/-- Raising two numbers to zero does not take them apart. -/
theorem near_max {p v e : ℝ} (h : |p - v| ≤ e) : |max p 0 - max v 0| ≤ e := (abs_max_sub_max_le_abs p v 0).trans h

/-- The tolerance's comparison of a real number. -/
theorem small_real {d e : ℝ} (hd : |d| ≤ 1 / 2 ^ 20) (he : |e| ≤ 1 / 2 ^ 20) : small ((d : EReal) : Ideal .f32) ((e : EReal) : Ideal .f32) = 1#1 := by
  have key {d : ℝ} (hd : |d| ≤ 1 / 2 ^ 20) : (max (d : EReal) (-(d : EReal)) : EReal) ≤ lit 0x35800000#32 := by
    rw [show (lit 0x35800000#32 : EReal) = ((1 / 2 ^ 20 : ℝ) : EReal) from Consts.tolerance, ← EReal.coe_neg, max_le_iff]
    exact ⟨EReal.coe_le_coe_iff.2 ((le_abs_self d).trans hd), EReal.coe_le_coe_iff.2 ((neg_le_abs d).trans hd)⟩
  unfold small
  rw [and_iff, le_iff, le_iff]
  exact ⟨key hd, key he⟩

/-- The kernel's places are close to the reference's. -/
theorem close_ant {x y t : Ideal .f32} (i : N.Idx) (r : Ranged x y t) :
    small (floor0 (goX x (Arrays.chosen t i)) - inside (stepX x t i)) (floor0 (goY y (Arrays.chosen t i)) - inside (stepY y t i)) = 1#1 := by
  obtain ⟨h, p, q, v, w, m⟩ := moved i r
  rw [m.goX, m.goY, m.stepX, m.stepY, floor0_real, floor0_real, inside_real m.smallX, inside_real m.smallY]
  show small ((max p 0 : ℝ) - (max v 0 : ℝ) : EReal) ((max q 0 : ℝ) - (max w 0 : ℝ) : EReal) = _
  rw [← EReal.coe_sub, ← EReal.coe_sub]
  exact small_real (near_max m.nearX) (near_max m.nearY)

/-- Two numbers near each other, the second below minus the tolerance, are both raised to zero. -/
theorem max_eq_of_below {p v : ℝ} (h : |p - v| ≤ 1 / 2 ^ 20) (b : below ((v : EReal) : Ideal .f32) = 1#1) : max p 0 = max v 0 := by
  unfold below at b
  rw [le_iff, show (lit 0xB5800000#32 : EReal) = ((-1 / 2 ^ 20 : ℝ) : EReal) from Consts.neg_tolerance, EReal.coe_le_coe_iff] at b
  have := (abs_le.1 h).2
  rw [max_eq_right (by linarith), max_eq_right (by linarith)]

/-- Where the reference's first coordinate is below minus the tolerance, the first results are equal. -/
theorem equal_x {x y t : Ideal .f32} (i : N.Idx) (r : Ranged x y t) (b : below (stepX x t i) = 1#1) :
    floor0 (goX x (Arrays.chosen t i)) = inside (stepX x t i) := by
  obtain ⟨h, p, q, v, w, m⟩ := moved i r
  rw [m.stepX] at b
  rw [m.goX, m.stepX, floor0_real, inside_real m.smallX, max_eq_of_below m.nearX b]

/-- Where the reference's second coordinate is below minus the tolerance, the second results are equal. -/
theorem equal_y {x y t : Ideal .f32} (i : N.Idx) (r : Ranged x y t) (b : below (stepY y t i) = 1#1) :
    floor0 (goY y (Arrays.chosen t i)) = inside (stepY y t i) := by
  obtain ⟨h, p, q, v, w, m⟩ := moved i r
  rw [m.stepY] at b
  rw [m.goY, m.stepY, floor0_real, inside_real m.smallY, max_eq_of_below m.nearY b]

/-- Two numbers near each other, the second beyond the tolerance, lie on the same side of zero. -/
theorem side_iff_of_far {p v : ℝ} (h : |p - v| ≤ 1 / 2 ^ 20) (b : far ((v : EReal) : Ideal .f32) = 1#1) : p ≤ 0 ↔ v ≤ 0 := by
  unfold far at b
  rw [gt_iff, show (lit 0x35800000#32 : EReal) = ((1 / 2 ^ 20 : ℝ) : EReal) from Consts.tolerance] at b
  obtain ⟨l, u⟩ := abs_le.1 h
  rcases lt_max_iff.1 b with b | b
  · have : (1 / 2 ^ 20 : ℝ) < v := EReal.coe_lt_coe_iff.1 b
    constructor <;> intro <;> linarith
  · rw [← EReal.coe_neg] at b
    have : (1 / 2 ^ 20 : ℝ) < -v := EReal.coe_lt_coe_iff.1 b
    constructor <;> intro <;> linarith

/-- Where both of the reference's coordinates are beyond the tolerance, the new angles are equal. -/
theorem equal_t {x y t : Ideal .f32} (i : N.Idx) (r : Ranged x y t) (b : far (stepX x t i) &&& far (stepY y t i) = 1#1) :
    turn (goX x (Arrays.chosen t i)) (goY y (Arrays.chosen t i)) (Arrays.chosen t i) (angle 2 i) = newAngle (stepX x t i) (stepY y t i) t i := by
  obtain ⟨h, p, q, v, w, m⟩ := moved i r
  rw [m.stepX, m.stepY, and_iff] at b
  rw [m.goX, m.goY, m.stepX, m.stepY, newAngle_real m.smallX m.smallY t h i m.heading, chosen_eq, m.heading, (angle_eq 2 i).1]
  refine (turn_real p q h (angleR 2 i)).trans ?_
  simp only [side_iff_of_far m.nearX b.1, side_iff_of_far m.nearY b.2]

end Cert.Ant
-- ==== Proof.RefDraws.lean ====
/-
  The reference's three rows of draws are `draws`.
-/
module

public import proofs.«01_k».proof.Proof.Range
public import proofs.«01_k».proof.Proof.Gen.ReferenceIdeal.Run

@[expose] public section

set_option maxRecDepth 8192

noncomputable section

namespace Cert.RefDraws

open Idealize.ShloMosaic Idealize.ShloMosaic.TcCoe Cert.ReferenceIdeal Cert.ReferenceIdeal.Gen Cert.ReferenceIdeal.Value Cert.Draws

variable (V : Valuation τ sig (Elt Ideal))

theorem lit0_eq : lit0 = words0 := funext fun a => by fin_cases a <;> rfl
theorem lit1_eq : lit1 = words1 := funext fun a => by fin_cases a <;> rfl

theorem c_eq : res_main_c V = keys words0 := (literal_K lit0).trans (congrArg keys lit0_eq)
theorem c_0_eq : res_main_c_0 V = keys words1 := (literal_K lit1).trans (congrArg keys lit1_eq)
theorem v2_eq : res_main_call0_v2 V = keys words2 := by
  unfold res_main_call0_v2; rw [c_eq, c_0_eq]; exact words2_eq

/-- The first four rounds and the keys after them. -/
theorem step1 : (addi (res_main_call0_v11_0 V) (spread (res_main_c_0 V)), res_main_call0_v17 V)
    = key (res_main_c_0 V) (res_main_call0_v2 V) 1#32 (quadA (start (res_main_c V) (res_main_c_0 V))) := rfl
theorem step2 : (addi (res_main_call0_v18_0 V) (spread (res_main_call0_v2 V)), res_main_call0_v24 V)
    = key (res_main_call0_v2 V) (res_main_c V) 2#32 (quadB (addi (res_main_call0_v11_0 V) (spread (res_main_c_0 V)), res_main_call0_v17 V)) := rfl
theorem step3 : (addi (res_main_call0_v25_0 V) (spread (res_main_c V)), res_main_call0_v31 V)
    = key (res_main_c V) (res_main_c_0 V) 3#32 (quadA (addi (res_main_call0_v18_0 V) (spread (res_main_call0_v2 V)), res_main_call0_v24 V)) := rfl
theorem step4 : (addi (res_main_call0_v32_0 V) (spread (res_main_c_0 V)), res_main_call0_v38 V)
    = key (res_main_c_0 V) (res_main_call0_v2 V) 4#32 (quadB (addi (res_main_call0_v25_0 V) (spread (res_main_c V)), res_main_call0_v31 V)) := rfl
theorem step5 : res_main_v14 V = maximumf (fraction (key (res_main_call0_v2 V) (res_main_c V) 5#32
    (quadA (addi (res_main_call0_v32_0 V) (spread (res_main_c_0 V)), res_main_call0_v38 V)))) (fun _ => FloatOps.ofBits .f32 0x00000000#32) := rfl

theorem v14_eq : res_main_v14 V = draws := by
  rw [step5, step4, step3, step2, step1, c_eq, c_0_eq, v2_eq]
  exact max_fraction _

end Cert.RefDraws
-- ==== Proof.RefValue.lean ====
/-
  The reference's three results, read at one ant.
-/
module

public import proofs.«01_k».proof.Proof.Step
public import proofs.«01_k».proof.Proof.RefDraws

@[expose] public section

set_option maxRecDepth 8192

noncomputable section

namespace Cert.RefValue

open Idealize.ShloMosaic Idealize.ShloMosaic.TcCoe Idealize.ShloMosaic.StableHlo Cert.ReferenceIdeal Cert.ReferenceIdeal.Gen Cert.ReferenceIdeal.Value Cert.Draws Cert.Step

variable (V : Valuation τ sig (Elt Ideal)) (i : N.Idx)

/-- The ant's first coordinate, its second one and its angle. -/
abbrev x : Ideal .f32 := (V (Proc.devRef .tc main_arg0) : FVec Ideal S4194304 .f32) i
abbrev y : Ideal .f32 := (V (Proc.devRef .tc main_arg1) : FVec Ideal S4194304 .f32) i
abbrev t : Ideal .f32 := (V (Proc.devRef .tc main_arg2) : FVec Ideal S4194304 .f32) i

/-- Row `d` of the draws as the reference cuts it out. -/
theorem row (d : Fin 3) (hs : T.Slices ![d.val, 0] R) (hc : R.ShapeCasts N) :
    shapeCast N (extractStridedSlice R ![d.val, 0] (res_main_v14 V : FVec Ideal T .f32) hs) hc i = draw d i := by
  rw [RefDraws.v14_eq]; exact row_apply _ d hs hc i

theorem v25_apply : (res_main_v25 V : FVec Ideal S4194304 .f32) i = heading (t V i) i := by
  show Scalar.select (FloatOps.cmpf (F := Ideal) (φ := .f32) .ole
      (shapeCast N (extractStridedSlice R ![(1 : Fin 3).val, 0] (res_main_v14 V : FVec Ideal T .f32) slices_S3x4194304_S1x4194304_1_0) shapeCasts_S1x4194304_S4194304 i) _)
    ((shapeCast N (extractStridedSlice R ![(0 : Fin 3).val, 0] (res_main_v14 V : FVec Ideal T .f32) slices_S3x4194304_S1x4194304_0_0) shapeCasts_S1x4194304_S4194304 i : EReal) * _ * _) _ = _
  rw [row, row]
  rfl

theorem v29_apply : (res_main_v29 V : FVec Ideal S4194304 .f32) i = stepX (x V i) (t V i) i := by
  show x V i + Ideal.cos ((res_main_v25 V : FVec Ideal S4194304 .f32) i) * _ = _
  rw [v25_apply]; rfl

theorem v33_apply : (res_main_v33 V : FVec Ideal S4194304 .f32) i = stepY (y V i) (t V i) i := by
  show y V i + Ideal.sin ((res_main_v25 V : FVec Ideal S4194304 .f32) i) * _ = _
  rw [v25_apply]; rfl

theorem v82_apply : (res_main_v82 V : FVec Ideal S4194304 .f32) i = count (stepX (x V i) (t V i) i) (stepY (y V i) (t V i) i) := by
  rw [← v29_apply, ← v33_apply]; rfl

/-! ## The results -/

/-- After the reference's run, its three results at ant `i` are the step's. -/
theorem run_apply (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ i : N.Idx, r.2.mem ((c.tc : Thread nD τ).loc main_v53) i = inside (stepX (x (launchContents m c) i) (t (launchContents m c) i) i))
      ∧ (∀ i : N.Idx, r.2.mem ((c.tc : Thread nD τ).loc main_v67) i = inside (stepY (y (launchContents m c) i) (t (launchContents m c) i) i))
      ∧ (∀ i : N.Idx, r.2.mem ((c.tc : Thread nD τ).loc main_v88) i
          = newAngle (stepX (x (launchContents m c) i) (t (launchContents m c) i) i) (stepY (y (launchContents m c) i) (t (launchContents m c) i) i)
              (t (launchContents m c) i) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (run m ρ).mono fun r h c => by
    obtain ⟨h1, h2, h3, h4⟩ := h c
    refine ⟨fun i => ?_, fun i => ?_, fun i => ?_, h4⟩
    · rw [h1, ← v29_apply]; rfl
    · rw [h2, ← v33_apply]; rfl
    · rw [h3]
      unfold newAngle
      rw [← v82_apply, ← v25_apply, angle, ← row (launchContents m c) i 2 slices_S3x4194304_S1x4194304_2_0 shapeCasts_S1x4194304_S4194304]
      rfl

end Cert.RefValue
-- ==== Proof.Claims.lean ====
/-
  The claims.
-/
module

public import proofs.«01_k».proof.Defs
public import proofs.«01_k».proof.Proof.Ant
public import proofs.«01_k».proof.Proof.RefValue
public import proofs.«01_k».proof.Proof.Gen.Kernel.Frame
public import Idealize.ShloMosaic.Lib.Quiescent

@[expose] public section

noncomputable section

namespace Cert.Proof

open Idealize.ShloMosaic Idealize.ShloMosaic.TcCoe Idealize.SL.Sem Cert.Draws Cert.Step Cert.Lane

/-! ## The frames -/

/-- The kernel ends without a fault, leaves its arguments as they were and every semaphore at zero. -/
theorem frame_kernel : Cert.quiescent_Kernel := fun m ρ _ => Cert.Kernel.Gen.frame m ρ
/-- The same of the ideal kernel. -/
theorem frame_ideal : Cert.quiescent_KernelIdeal := fun m ρ _ => Cert.KernelIdeal.Gen.frame m ρ
/-- The same of the ideal kernel from inputs in range. -/
theorem frame_ideal_in_range [Cert.Pre_in_range.Facts] : Cert.quiescent_KernelIdeal_pre_in_range := fun m ρ _ => Cert.KernelIdeal.Gen.frame m ρ
/-- The same of the ideal reference. -/
theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩) (RefValue.run_apply m ρ)
/-- The same of the ideal reference from inputs in range. -/
theorem frame_reference_in_range [Cert.Pre_in_range.Facts] : Cert.quiescent_ReferenceIdeal_pre_in_range := fun m ρ _ => frame_reference m ρ trivial

/-! ## The values -/

/-- The precondition, at one ant of device `c`. -/
theorem ranged [Cert.Pre_in_range.Facts] {m : (ℓ : Loc Cert.KernelIdeal.nD Cert.KernelIdeal.τ Cert.KernelIdeal.sig) → Buf (Elt Ideal) ℓ}
    (h : Cert.Pre_KernelIdeal_in_range m) (c : Dev Cert.KernelIdeal.nD) (i : N.Idx) : Ant.Ranged (Arrays.px m c i) (Arrays.py m c i) (Arrays.pt m c i) :=
  (Masks.in_range_apply (Arrays.px m c) (Arrays.py m c) (Arrays.pt m c) _ i).symm.trans (congrFun (h c) i)

/-- The kernel's places are within the tolerance of the reference's. -/
theorem holds_close [Cert.Pre_in_range.Facts] [Cert.Post_close.Facts] : Cert.holds_KernelIdeal_close_pre_in_range := fun m ρ h =>
  (Arrays.run_apply m ρ).mono fun r k c => by
    obtain ⟨k0, k1, -, a0, a1, a2, a3⟩ := k c
    refine ⟨a0, a1, a2, a3, funext fun i => (Masks.close_apply (Arrays.px m c) (Arrays.py m c) (Arrays.pt m c) _ _ _ _ i).trans ?_⟩
    rw [k0, k1]
    exact Ant.close_ant i (ranged h c i)

/-- The kernel's results equal the reference's where the mask is set. -/
theorem algebraic [Cert.Pre_in_range.Facts] [Cert.On_off_edge.Facts] : Cert.algebraic_KernelIdeal_ReferenceIdeal_on_off_edge_pre_in_range := by
  intro m ρ m' ρ' h agree
  have on (c : Dev Cert.KernelIdeal.nD) (i : N.Idx) := Masks.off_edge_apply (Arrays.px m c) (Arrays.py m c) (Arrays.pt m c)
    (m ((c : Thread Cert.KernelIdeal.nD Cert.KernelIdeal.τ).loc Cert.KernelIdeal.main_arg3)) i
  refine ⟨fun c i => inside (stepX (Arrays.px m c i) (Arrays.pt m c i) i), fun c i => inside (stepY (Arrays.py m c i) (Arrays.pt m c i) i),
    fun c i => newAngle (stepX (Arrays.px m c i) (Arrays.pt m c i) i) (stepY (Arrays.py m c i) (Arrays.pt m c i) i) (Arrays.pt m c i) i, ?_, ?_⟩
  · refine (Arrays.run_apply m ρ).mono fun r k c => ?_
    obtain ⟨k0, k1, k2, a⟩ := k c
    refine ⟨fun i b => ?_, fun i b => ?_, fun i b => ?_, a⟩
    · exact (k0 i).trans (Ant.equal_x i (ranged h c i) ((on c i).1.symm.trans b))
    · exact (k1 i).trans (Ant.equal_y i (ranged h c i) ((on c i).2.1.symm.trans b))
    · exact (k2 i).trans (Ant.equal_t i (ranged h c i) ((on c i).2.2.symm.trans b))
  · refine (RefValue.run_apply m' ρ').mono fun r k c => ?_
    obtain ⟨k0, k1, k2, a⟩ := k c
    obtain ⟨e0, e1, e2, -⟩ := agree c
    have x (i : N.Idx) : RefValue.x (StableHlo.launchContents m' c) i = Arrays.px m c i := congrFun e0 i
    have y (i : N.Idx) : RefValue.y (StableHlo.launchContents m' c) i = Arrays.py m c i := congrFun e1 i
    have t (i : N.Idx) : RefValue.t (StableHlo.launchContents m' c) i = Arrays.pt m c i := congrFun e2 i
    refine ⟨fun i _ => ?_, fun i _ => ?_, fun i _ => ?_, a⟩
    · rw [k0 i, x, t]
    · rw [k1 i, y, t]
    · rw [k2 i, x, y, t]

end Cert.Proof
-- ==== Proof.lean ====
/-
  The certificate's claim: the side conditions that the programs state, proved in the generated modules, and the claims of `Proof/Claims.lean`.
-/
module

public import proofs.«01_k».proof.Proof.Claims
public import proofs.«01_k».proof.Proof.Gen.Pre_in_range
public import proofs.«01_k».proof.Proof.Gen.Post_close
public import proofs.«01_k».proof.Proof.Gen.On_off_edge

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_in_range.Gen.facts, Cert.Post_close.Gen.facts, Cert.On_off_edge.Gen.facts,
    frame_kernel, frame_ideal, frame_ideal_in_range, frame_reference, frame_reference_in_range, trivial, algebraic, holds_close⟩

end Cert.Proof

end
